-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S1 : Shape := ⟨1, ![1]⟩
abbrev S4096x1024 : Shape := ⟨2, ![4096, 1024]⟩
abbrev S7x512x4096 : Shape := ⟨3, ![7, 512, 4096]⟩
abbrev S15 : Shape := ⟨1, ![15]⟩
abbrev S_ : Shape := ⟨0, ![]⟩
abbrev S17 : Shape := ⟨1, ![17]⟩
abbrev S256x4096 : Shape := ⟨2, ![256, 4096]⟩
abbrev S1x256x4096 : Shape := ⟨3, ![1, 256, 4096]⟩
abbrev S256x1024 : Shape := ⟨2, ![256, 1024]⟩
abbrev S1x160x4096 : Shape := ⟨3, ![1, 160, 4096]⟩
abbrev S160x4096 : Shape := ⟨2, ![160, 4096]⟩
abbrev S1x192x4096 : Shape := ⟨3, ![1, 192, 4096]⟩
abbrev S192x4096 : Shape := ⟨2, ![192, 4096]⟩
abbrev S160x1024 : Shape := ⟨2, ![160, 1024]⟩
abbrev S192x1024 : Shape := ⟨2, ![192, 1024]⟩

abbrev nBuf : Space → Nat
  | .hbm => 5
  | .vmem => 6
  | .smem => 2
  | _ => 0

abbrev bufTy : (tb : Table) → Fin (tcTables nBuf tb) → BufTy
  | .hbm, ⟨0, _⟩ => ⟨S512x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x1024, .f32⟩
  | .local _ .vmem, ⟨0, _⟩ => ⟨S512x4096, .fp8e5m2⟩
  | .local _ .vmem, ⟨1, _⟩ => ⟨S512x4096, .fp8e5m2⟩
  | .local _ .vmem, ⟨2, _⟩ => ⟨S7x512x4096, .fp8e5m2⟩
  | .local _ .vmem, ⟨3, _⟩ => ⟨S4096x1024, .fp8e5m2⟩
  | .local _ .vmem, ⟨4, _⟩ => ⟨S4096x1024, .fp8e5m2⟩
  | .local _ .vmem, ⟨5, _⟩ => ⟨S4096x1024, .f32⟩
  | .local _ .smem, ⟨0, _⟩ => ⟨S1, .f32⟩
  | .local _ .smem, ⟨1, _⟩ => ⟨S1, .f32⟩
  | _, _ => ⟨S512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v6 : BitVec 32 := Scalar.muli v2 c1024_i32
  ![0, v6.toNat]
def k0_dev1 (d0 : Dev nD) : Nat :=
  let c0_i32_6 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_5 : BitVec 32 := 1#32
  let v14 : BitVec 32 := Scalar.muli v3 c1_i32_5
  let v15 : BitVec 32 := Scalar.addi c0_i32_6 v14
  v15.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_8 : BitVec 32 := 1#32
  let v16 : BitVec 32 := Scalar.muli v4 c1_i32_8
  let v17 : BitVec 32 := Scalar.addi c0_i32_9 v16
  v17.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_11 : BitVec 32 := 1#32
  let v18 : BitVec 32 := Scalar.muli v5 c1_i32_11
  let v19 : BitVec 32 := Scalar.addi c0_i32_12 v18
  v19.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_21 : BitVec 32 := 1#32
  let v25 : BitVec 32 := Scalar.muli v3 c1_i32_21
  let v26 : BitVec 32 := Scalar.addi c0_i32_22 v25
  v26.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_29 : BitVec 32 := 1#32
  let v34 : BitVec 32 := Scalar.muli v4 c1_i32_29
  let v35 : BitVec 32 := Scalar.addi c0_i32_30 v34
  v35.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_38 : BitVec 32 := 1#32
  let v43 : BitVec 32 := Scalar.muli v5 c1_i32_38
  let v44 : BitVec 32 := Scalar.addi c0_i32_39 v43
  v44.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_50 : BitVec 32 := 1#32
  let v57 : BitVec 32 := Scalar.muli v3 c1_i32_50
  let v58 : BitVec 32 := Scalar.addi c0_i32_51 v57
  v58.toNat
def k0_dev8 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_58 : BitVec 32 := 1#32
  let v66 : BitVec 32 := Scalar.muli v4 c1_i32_58
  let v67 : BitVec 32 := Scalar.addi c0_i32_59 v66
  v67.toNat
def k0_dev9 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_66 : BitVec 32 := 1#32
  let v75 : BitVec 32 := Scalar.muli v5 c1_i32_66
  let v76 : BitVec 32 := Scalar.addi c0_i32_67 v75
  v76.toNat
def k0_dev10 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_91 : BitVec 32 := 1#32
  let v99 : BitVec 32 := Scalar.muli v4 c1_i32_91
  let v100 : BitVec 32 := Scalar.addi c0_i32_92 v99
  v100.toNat
def k0_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_110 : BitVec 32 := 1#32
  let v116 : BitVec 32 := Scalar.muli v5 c1_i32_110
  let v117 : BitVec 32 := Scalar.addi c0_i32_111 v116
  v117.toNat
def k0_dev12 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_128 : BitVec 32 := 1#32
  let v133 : BitVec 32 := Scalar.muli v3 c1_i32_128
  let v134 : BitVec 32 := Scalar.addi c0_i32_129 v133
  v134.toNat
def k0_off2 (d0 : Dev nD) (c1_i32_137 : BitVec 32) (c0_i32_140 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.xori v2 c1_i32_137
  let c512_i32 : BitVec 32 := 512#32
  let v148 : BitVec 32 := Scalar.muli v145 c512_i32
  let v149 : BitVec 32 := Scalar.addi v148 c0_i32_140
  let v154 : Index := Scalar.indexCast v149
  let c0_142 : Index := 0#32
  ![v154.toNat, 0]
def k0_off2_at (r : Fin 12) : BitVec 32 × BitVec 32 :=
  if r.val < 6 then
    if r.val < 3 then
      if r.val < 1 then
        (1#32, 0#32)
      else
        if r.val < 2 then
          (3#32, 0#32)
        else
          (4#32, 0#32)
    else
      if r.val < 4 then
        (1#32, 256#32)
      else
        if r.val < 5 then
          (3#32, 256#32)
        else
          (4#32, 256#32)
  else
    if r.val < 9 then
      if r.val < 7 then
        (5#32, 0#32)
      else
        if r.val < 8 then
          (2#32, 0#32)
        else
          (2#32, 256#32)
    else
      if r.val < 10 then
        (7#32, 0#32)
      else
        if r.val < 11 then
          (7#32, 256#32)
        else
          (5#32, 256#32)
def k0_off3 (d0 : Dev nD) (c1_i32_137 : BitVec 32) (c0_i32_140 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.xori v2 c1_i32_137
  let c512_i32 : BitVec 32 := 512#32
  let v148 : BitVec 32 := Scalar.muli v145 c512_i32
  let v149 : BitVec 32 := Scalar.addi v148 c0_i32_140
  let c0_i32_144 : BitVec 32 := 0#32
  ![v149.toNat, 0]
def k0_off3_at (r : Fin 12) : BitVec 32 × BitVec 32 :=
  if r.val < 6 then
    if r.val < 3 then
      if r.val < 1 then
        (1#32, 0#32)
      else
        if r.val < 2 then
          (3#32, 0#32)
        else
          (4#32, 0#32)
    else
      if r.val < 4 then
        (1#32, 256#32)
      else
        if r.val < 5 then
          (3#32, 256#32)
        else
          (4#32, 256#32)
  else
    if r.val < 9 then
      if r.val < 7 then
        (5#32, 0#32)
      else
        if r.val < 8 then
          (2#32, 0#32)
        else
          (2#32, 256#32)
    else
      if r.val < 10 then
        (7#32, 0#32)
      else
        if r.val < 11 then
          (7#32, 256#32)
        else
          (5#32, 256#32)
def k0_off4 (d0 : Dev nD) (c0_i32_178 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_177 : BitVec 32 := 512#32
  let v203 : BitVec 32 := Scalar.muli v2 c512_i32_177
  let v204 : BitVec 32 := Scalar.addi v203 c0_i32_178
  let v209 : Index := Scalar.indexCast v204
  let c0_180 : Index := 0#32
  ![v209.toNat, 0]
def k0_off5 (d0 : Dev nD) (c0_i32_178 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_177 : BitVec 32 := 512#32
  let v203 : BitVec 32 := Scalar.muli v2 c512_i32_177
  let v204 : BitVec 32 := Scalar.addi v203 c0_i32_178
  let c0_i32_182 : BitVec 32 := 0#32
  ![v204.toNat, 0]
def k0_dev13 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_196 : BitVec 32 := 1#32
  let v224 : BitVec 32 := Scalar.muli v4 c1_i32_196
  let v225 : BitVec 32 := Scalar.addi c0_i32_197 v224
  v225.toNat
def k0_dev14 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_214 : BitVec 32 := 1#32
  let v241 : BitVec 32 := Scalar.muli v5 c1_i32_214
  let v242 : BitVec 32 := Scalar.addi c0_i32_215 v241
  v242.toNat
def k0_dev15 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_232 : BitVec 32 := 1#32
  let v258 : BitVec 32 := Scalar.muli v3 c1_i32_232
  let v259 : BitVec 32 := Scalar.addi c0_i32_233 v258
  v259.toNat
def k0_dev16 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_309 : BitVec 32 := 1#32
  let v354 : BitVec 32 := Scalar.muli v4 c1_i32_309
  let v355 : BitVec 32 := Scalar.addi c0_i32_310 v354
  v355.toNat
def k0_dev17 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_362 : BitVec 32 := 1#32
  let v416 : BitVec 32 := Scalar.muli v5 c1_i32_362
  let v417 : BitVec 32 := Scalar.addi c0_i32_363 v416
  v417.toNat
def k0_dev18 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_393 : BitVec 32 := 1#32
  let v452 : BitVec 32 := Scalar.muli v3 c1_i32_393
  let v453 : BitVec 32 := Scalar.addi c0_i32_394 v452
  v453.toNat
def k0_off6 (d0 : Dev nD) (c0_i32_472 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_295 : BitVec 32 := 6#32
  let v345 : BitVec 32 := Scalar.xori v2 c6_i32_295
  let c512_i32_471 : BitVec 32 := 512#32
  let v544 : BitVec 32 := Scalar.muli v345 c512_i32_471
  let v545 : BitVec 32 := Scalar.addi v544 c0_i32_472
  let v550 : Index := Scalar.indexCast v545
  let c0_474 : Index := 0#32
  ![v550.toNat, 0]
def k0_off7 (d0 : Dev nD) (c0_i32_472 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_295 : BitVec 32 := 6#32
  let v345 : BitVec 32 := Scalar.xori v2 c6_i32_295
  let c512_i32_471 : BitVec 32 := 512#32
  let v544 : BitVec 32 := Scalar.muli v345 c512_i32_471
  let v545 : BitVec 32 := Scalar.addi v544 c0_i32_472
  let c0_i32_476 : BitVec 32 := 0#32
  ![v545.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_295 : BitVec 32 := 6#32
  let v345 : BitVec 32 := Scalar.xori v2 c6_i32_295
  let c512_i32_514 : BitVec 32 := 512#32
  let v596 : BitVec 32 := Scalar.muli v345 c512_i32_514
  let c320_i32_515 : BitVec 32 := 320#32
  let v597 : BitVec 32 := Scalar.addi v596 c320_i32_515
  let v602 : Index := Scalar.indexCast v597
  let c0_517 : Index := 0#32
  ![v602.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_295 : BitVec 32 := 6#32
  let v345 : BitVec 32 := Scalar.xori v2 c6_i32_295
  let c512_i32_514 : BitVec 32 := 512#32
  let v596 : BitVec 32 := Scalar.muli v345 c512_i32_514
  let c320_i32_515 : BitVec 32 := 320#32
  let v597 : BitVec 32 := Scalar.addi v596 c320_i32_515
  let c0_i32_518 : BitVec 32 := 0#32
  ![v597.toNat, 0]
abbrev stage0_0 : Fin 1 → Memref sig .tc .vmem S512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Common.lean ====
/-
# The fused all-gather and matmul: cells, contents and schedule

What every later module refers to: the index tables of the kernel's copies, the semaphores and the element sets they
are about, the contents each buffer is proved to hold, and the schedule of the rounds library under which each
semaphore is one cell with a single round.

Device `c` has three neighbours, `c xor 1`, `c xor 3` and `c xor 4`. Fifteen transfers leave it. Six of them carry a half of
its own rows to each neighbour, the other nine pass on rows that have arrived. After all of them slot `s` of
the landing buffer holds the rows of device `c xor slotMask s`.
-/
module

public import proofs.«01_k».proof.Proof.Gen.Kernel
public import proofs.«01_k».proof.Proof.Gen.Kernel.Skeleton
public import proofs.«01_k».proof.Proof.Gen.Kernel.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and one for the schedule, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: arbitrary contents, every semaphore counter zero, arbitrary generator registers. -/
def s₀ : MemSt nD τ sig (Elt F) := ⟨m, fun _ => 0, ρ⟩

/-! ## Neighbours -/

set_option backward.proofsInPublic true in
/-- The device whose number differs from `c`'s in the bits of `k`. -/
def flip (k : ℕ) (c : Dev nD) : Dev nD := ⟨(c.val ^^^ k) % 8, Nat.mod_lt _ (by decide)⟩

theorem flip_zero (c : Dev nD) : flip 0 c = c := by revert c; decide
theorem flip_fin (k : Fin 8) (c : Dev nD) : flip k.val (flip k.val c) = c := by revert k c; decide
theorem flip_flip {k : ℕ} (h : k < 8) (c : Dev nD) : flip k (flip k c) = c := flip_fin ⟨k, h⟩ c

/-- Flipping the bits of `k`, as a permutation of the devices. -/
def flipEquiv (k : ℕ) (h : k < 8) : Dev nD ≃ Dev nD := ⟨flip k, flip k, flip_flip h, flip_flip h⟩

/-! ## The tables of the transfers and of the result's blocks -/

/-- Transfer `i` goes to the neighbour `c xor mask i`. -/
def mask : Fin 15 → ℕ := ![1, 1, 3, 3, 4, 4, 3, 3, 4, 4, 1, 1, 3, 4, 1]
/-- It reads slot `sslot i` of the landing buffer (for `6 ≤ i`; the others read the device's own rows), -/
def sslot : Fin 15 → ℕ := ![7, 7, 7, 7, 7, 7, 0, 0, 1, 1, 2, 2, 5, 3, 4]
/-- and lands in slot `dslot i`, -/
def dslot : Fin 15 → ℕ := ![0, 0, 1, 1, 2, 2, 3, 3, 4, 4, 5, 5, 6, 6, 6]
/-- at the rows from `tlo i` on, -/
def tlo : Fin 15 → ℕ := ![0, 256, 0, 256, 0, 256, 0, 256, 0, 256, 0, 256, 0, 160, 320]
/-- `tlen i` of them. -/
def tlen : Fin 15 → ℕ := ![256, 256, 256, 256, 256, 256, 256, 256, 256, 256, 256, 256, 160, 160, 192]

/-- Slot `s` of device `c`'s landing buffer holds the rows of `c xor slotMask s`; slot 7 stands for its own. -/
def slotMask : ℕ → ℕ
  | 0 => 1 | 1 => 3 | 2 => 4 | 3 => 2 | 4 => 7 | 5 => 5 | 6 => 6 | _ => 0

/-- What transfer `i` reads at `c` is what its target is to hold. -/
theorem slot_flip (i : Fin 15) (c : Dev nD) : flip (slotMask (dslot i)) (flip (mask i) c) = flip (slotMask (sslot i)) c := by
  revert i c; decide

/-- Block `j` of the result is of the rows of device `c xor omask j`, -/
def omask : Fin 17 → ℕ := ![1, 3, 4, 0, 1, 3, 4, 0, 5, 2, 2, 7, 7, 5, 6, 6, 6]
/-- from row `ooff j` of that device on, -/
def ooff : Fin 17 → ℕ := ![0, 0, 0, 0, 256, 256, 256, 256, 0, 0, 256, 0, 256, 256, 0, 160, 320]
/-- `olen j` of them. -/
def olen : Fin 17 → ℕ := ![256, 256, 256, 256, 256, 256, 256, 256, 256, 256, 256, 256, 256, 256, 160, 160, 192]
/-- Its first row in the result. -/
def olo (c : Dev nD) (j : Fin 17) : ℕ := 512 * (flip (omask j) c).val + ooff j

/-! ## The memrefs and the semaphores -/

abbrev gM : Memref sig .tc .vmem S512x4096 .fp8e5m2 := Memref.whole cc0_stg0_0
abbrev xM : Memref sig .tc .vmem S512x4096 .fp8e5m2 := Memref.whole cc0_scratch0
abbrev cM : Memref sig .tc .vmem S7x512x4096 .fp8e5m2 := Memref.whole cc0_scratch1
abbrev wM : Memref sig .tc .vmem S4096x1024 .fp8e5m2 := Memref.whole cc0_scratch2
abbrev tM : Memref sig .tc .vmem S4096x1024 .fp8e5m2 := Memref.whole cc0_scratch3
abbrev oM : Memref sig .tc .vmem S4096x1024 .f32 := Memref.whole cc0_scratch4
abbrev hM : Memref sig .tc .hbm S4096x8192 .fp8e5m2 := Memref.whole main_arg1
abbrev rM : Memref sig .tc .hbm S4096x1024 .f32 := Memref.whole main_v1
abbrev aM : Memref sig .tc .smem S1 .f32 := Memref.whole cc0_stg1_0
abbrev bM : Memref sig .tc .smem S1 .f32 := Memref.whole cc0_stg2_0

/-- The runtime's barrier semaphore. -/
abbrev barS : Sem sig := (SemArray.scalar (sig.barrier 0 rfl) : Sems sig S_).sem

set_option backward.proofsInPublic true in
/-- The DMA semaphore of number `v`. -/
def dS (v : ℕ) (h : v < 51 := by decide) : DmaSem sig := ⟨v, h⟩

set_option backward.proofsInPublic true in
/-- The semaphore that tells that transfer `i`'s source has been read; -/
def sS (i : Fin 15) : DmaSem sig := dS (3 + i.val) (by omega)
set_option backward.proofsInPublic true in
/-- that transfer `i` has landed here; -/
def rS (i : Fin 15) : DmaSem sig := dS (18 + i.val) (by omega)
set_option backward.proofsInPublic true in
/-- that the columns of `w` have come; -/
def wS : DmaSem sig := dS 33
set_option backward.proofsInPublic true in
/-- that block `j` of the result has been written. -/
def oS (j : Fin 17) : DmaSem sig := dS (34 + j.val) (by omega)

abbrev dC (c : Dev nD) (s : DmaSem sig) : GSem nD τ sig := ((c : Thread nD τ), .dma s)
abbrev barC (c : Dev nD) : GSem nD τ sig := ((c : Thread nD τ), .reg barS)

/-- The credit of a copy of `n` rows of a device's block, of the columns of `w`, and of `n` rows of the result. -/
def rowsCredit (n : ℕ) : ℕ := RefSig.tileCredit ⟨2, ![n, 4096]⟩ .fp8e5m2
def wCredit : ℕ := RefSig.tileCredit S4096x1024 .fp8e5m2
def outCredit (n : ℕ) : ℕ := RefSig.tileCredit ⟨2, ![n, 1024]⟩ .f32

/-! ## Element sets -/

/-- Rows `lo … lo+n` of a device's own block, -/
def rowsX (lo n : ℕ) : Finset S512x4096.Idx := Finset.univ.filter fun i => lo ≤ (i 0).val ∧ (i 0).val < lo + n
/-- rows `lo … lo+n` of slot `s` of the landing buffer, -/
def slotC (s lo n : ℕ) : Finset S7x512x4096.Idx :=
  Finset.univ.filter fun i => (i 0).val = s ∧ lo ≤ (i 1).val ∧ (i 1).val < lo + n
/-- rows `lo … lo+n` of the result. -/
def rowsO (lo n : ℕ) : Finset S4096x1024.Idx := Finset.univ.filter fun i => lo ≤ (i 0).val ∧ (i 0).val < lo + n

/-- The columns of `w` that device `c` multiplies with. -/
def colsW (c : Dev nD) : Finset S4096x8192.Idx := Finset.univ.filter fun i => 1024 * c.val ≤ (i 1).val ∧ (i 1).val < 1024 * c.val + 1024

theorem mem_colsW {c : Dev nD} {i : S4096x8192.Idx} : i ∈ colsW c ↔ 1024 * c.val ≤ (i 1).val ∧ (i 1).val < 1024 * c.val + 1024 := by
  unfold colsW; simp only [Finset.mem_filter, Finset.mem_univ, true_and]
theorem mem_rowsX {lo n : ℕ} {i : S512x4096.Idx} : i ∈ rowsX lo n ↔ lo ≤ (i 0).val ∧ (i 0).val < lo + n := by
  unfold rowsX; simp only [Finset.mem_filter, Finset.mem_univ, true_and]
theorem mem_slotC {s lo n : ℕ} {i : S7x512x4096.Idx} :
    i ∈ slotC s lo n ↔ (i 0).val = s ∧ lo ≤ (i 1).val ∧ (i 1).val < lo + n := by
  unfold slotC; simp only [Finset.mem_filter, Finset.mem_univ, true_and]
theorem mem_rowsO {lo n : ℕ} {i : S4096x1024.Idx} : i ∈ rowsO lo n ↔ lo ≤ (i 0).val ∧ (i 0).val < lo + n := by
  unfold rowsO; simp only [Finset.mem_filter, Finset.mem_univ, true_and]

/-! ## Contents -/

/-- Device `d`'s block of `x`. -/
def X (d : Dev nD) : S512x4096.Idx → Elt F .fp8e5m2 := m ((d : Thread nD τ).loc main_arg0)

set_option backward.proofsInPublic true in
/-- What device `c`'s landing buffer comes to hold. -/
def landF (c : Dev nD) : S7x512x4096.Idx → Elt F .fp8e5m2 :=
  fun i => X m (flip (slotMask (i 0).val) c) (ix2 (i 1) (i 2))

set_option backward.proofsInPublic true in
theorem wcol_lt (c : Dev nD) (j : Fin 1024) : 1024 * c.val + j.val < 8192 := by
  have h : c.val < 8 := c.isLt
  have := j.isLt
  omega

/-- The columns of `w` that device `c` multiplies with. -/
def wF (c : Dev nD) : S4096x1024.Idx → Elt F .fp8e5m2 :=
  fun i => (m ((c : Thread nD τ).loc main_arg1) : S4096x8192.Idx → Elt F .fp8e5m2) (ix2 (i 0) ⟨1024 * c.val + (i 1).val, wcol_lt c (i 1)⟩)

/-- The product of the two scales on device `c`. -/
def scF (c : Dev nD) : F .f32 :=
  k0_pay6 (F := F) ((m ((c : Thread nD τ).loc main_arg2) : S1.Idx → Elt F .f32) (ix1 0))
    ((m ((c : Thread nD τ).loc main_arg3) : S1.Idx → Elt F .f32) (ix1 0))

/-- `n` rows of device `d`'s block, from row `lo` on. -/
def xrows (d : Dev nD) (lo n : ℕ) (h : lo + n ≤ 512) : (⟨2, ![n, 4096]⟩ : Shape).Idx → Elt F .fp8e5m2 :=
  fun i => X m d (ix2 ⟨lo + (i 0).val, by have : (i 0).val < n := (i 0).isLt; omega⟩ (i 1))

/-- One block of the result from 256 rows `x`, the columns `w` and the scale: the product, scaled, its negative
    entries replaced by zero. -/
def gemm256 (sc : F .f32) (x : FVec F S256x4096 .fp8e5m2) (w : FVec F S4096x1024 .fp8e5m2) : FVec F S256x1024 .f32 :=
  maximumf (mulf (matmul dot_S256x4096_S4096x1024_S256x1024_1_0_0_1_n_n none x w (constant S256x1024 .f32 0x00000000#32))
    (broadcast S256x1024 sc)) (broadcast S256x1024 (Scalar.ofBits .f32 0x00000000#32))
/-- The same of 160 rows, -/
def gemm160 (sc : F .f32) (x : FVec F S160x4096 .fp8e5m2) (w : FVec F S4096x1024 .fp8e5m2) : FVec F S160x1024 .f32 :=
  maximumf (mulf (matmul dot_S160x4096_S4096x1024_S160x1024_1_0_0_1_n_n none x w (constant S160x1024 .f32 0x00000000#32))
    (broadcast S160x1024 sc)) (broadcast S160x1024 (Scalar.ofBits .f32 0x00000000#32))
/-- and of 192. -/
def gemm192 (sc : F .f32) (x : FVec F S192x4096 .fp8e5m2) (w : FVec F S4096x1024 .fp8e5m2) : FVec F S192x1024 .f32 :=
  maximumf (mulf (matmul dot_S192x4096_S4096x1024_S192x1024_1_0_0_1_n_n none x w (constant S192x1024 .f32 0x00000000#32))
    (broadcast S192x1024 sc)) (broadcast S192x1024 (Scalar.ofBits .f32 0x00000000#32))

set_option backward.proofsInPublic true in
/-- What device `c`'s block of columns of the result comes to hold. Row `512 d + r` is of row `r` of device `d`; it is computed in one
    of the chunks of rows that the kernel cuts device `d`'s block into: three chunks for `d = c xor 6`, two halves else. -/
def outF (c : Dev nD) : S4096x1024.Idx → Elt F .f32 := fun i =>
  if i0 : (i 0).val / 512 = (flip 6 c).val then
    if h1 : (i 0).val % 512 < 160 then
      gemm160 (scF m c) (xrows m (flip 6 c) 0 160 (by decide)) (wF m c) (ix2 ⟨(i 0).val % 512, h1⟩ (i 1))
    else if h2 : (i 0).val % 512 < 320 then
      gemm160 (scF m c) (xrows m (flip 6 c) 160 160 (by decide)) (wF m c) (ix2 ⟨(i 0).val % 512 - 160, by omega⟩ (i 1))
    else
      gemm192 (scF m c) (xrows m (flip 6 c) 320 192 (by decide)) (wF m c) (ix2 ⟨(i 0).val % 512 - 320, by omega⟩ (i 1))
  else
    if h1 : (i 0).val % 512 < 256 then
      gemm256 (scF m c) (xrows m ⟨(i 0).val / 512, by have : (i 0).val < 4096 := (i 0).isLt; show _ < 8; omega⟩ 0 256 (by decide)) (wF m c)
        (ix2 ⟨(i 0).val % 512, h1⟩ (i 1))
    else
      gemm256 (scF m c) (xrows m ⟨(i 0).val / 512, by have : (i 0).val < 4096 := (i 0).isLt; show _ < 8; omega⟩ 256 256 (by decide)) (wF m c)
        (ix2 ⟨(i 0).val % 512 - 256, by omega⟩ (i 1))

/-! ## Points-to facts of the buffers, over plain index sets -/

def xAt (c : Dev nD) (S : Finset S512x4096.Idx) (q : PosShare TreeShare) (f : S512x4096.Idx → Elt F .fp8e5m2) : sProp 𝕄 :=
  ((c : Thread nD τ).loc cc0_scratch0) ↦[S]{q} f
def cAt (c : Dev nD) (S : Finset S7x512x4096.Idx) (q : PosShare TreeShare) (f : S7x512x4096.Idx → Elt F .fp8e5m2) : sProp 𝕄 :=
  ((c : Thread nD τ).loc cc0_scratch1) ↦[S]{q} f
def wAt (c : Dev nD) (f : S4096x1024.Idx → Elt F .fp8e5m2) : sProp 𝕄 := ((c : Thread nD τ).loc cc0_scratch2) ↦{fullShare} f
def tAt (c : Dev nD) (f : S4096x1024.Idx → Elt F .fp8e5m2) : sProp 𝕄 := ((c : Thread nD τ).loc cc0_scratch3) ↦{fullShare} f
def oAt (c : Dev nD) (S : Finset S4096x1024.Idx) (f : S4096x1024.Idx → Elt F .f32) : sProp 𝕄 :=
  ((c : Thread nD τ).loc cc0_scratch4) ↦[S]{fullShare} f
def hAt (c : Dev nD) (S : Finset S4096x8192.Idx) : sProp 𝕄 := ((c : Thread nD τ).loc main_arg1) ↦[S]{fullShare} (m ((c : Thread nD τ).loc main_arg1))
def rAt (c : Dev nD) (S : Finset S4096x1024.Idx) (f : S4096x1024.Idx → Elt F .f32) : sProp 𝕄 :=
  ((c : Thread nD τ).loc main_v1) ↦[S]{fullShare} f

instance xAt_storable (c S q f) : BI.Storable (upEmb : UEmb _ 𝕄) (xAt (F := F) c S q f) := by unfold xAt; infer_instance
instance cAt_storable (c S q f) : BI.Storable (upEmb : UEmb _ 𝕄) (cAt (F := F) c S q f) := by unfold cAt; infer_instance
instance tAt_storable (c f) : BI.Storable (upEmb : UEmb _ 𝕄) (tAt (F := F) c f) := by unfold tAt; infer_instance
instance oAt_storable (c S f) : BI.Storable (upEmb : UEmb _ 𝕄) (oAt (F := F) c S f) := by unfold oAt; infer_instance
instance hAt_storable (c S) : BI.Storable (upEmb : UEmb _ 𝕄) (hAt (F := F) m c S) := by unfold hAt; infer_instance
instance rAt_storable (c S f) : BI.Storable (upEmb : UEmb _ 𝕄) (rAt (F := F) c S f) := by unfold rAt; infer_instance

/-! ## The schedule -/

/-- The elements of transfer `i` in the landing buffer it lands in, and in the one it leaves from. -/
def dstSet (i : Fin 15) : Finset S7x512x4096.Idx := slotC (dslot i) (tlo i) (tlen i)
def srcSet (i : Fin 15) : Finset S7x512x4096.Idx := slotC (sslot i) (tlo i) (tlen i)

/-- Where transfer `i` lands on device `p`, with any contents. -/
def landing (p : Dev nD) (i : Fin 15) : sProp 𝕄 := iprop(∃ f, cAt p (dstSet i) fullShare f)

instance landing_storable (p i) : BI.Storable (upEmb : UEmb _ 𝕄) (landing (F := F) p i) := by unfold landing; infer_instance

/-- The share of a device's own rows that transfer `i` reads with, one of three for the three neighbours. -/
def shareX (i : Fin 15) : PosShare TreeShare :=
  if mask i = 1 then (fullShare : PosShare TreeShare).left else if mask i = 3 then (fullShare : PosShare TreeShare).right.left
  else (fullShare : PosShare TreeShare).right.right.left

/-- What the source semaphore of transfer `i` gives back: the share of what was read. -/
def sendPay (c : Dev nD) (i : Fin 15) : sProp 𝕄 :=
  if i.val < 6 then xAt c (rowsX (tlo i) (tlen i)) (shareX i) (X m c)
  else cAt c (srcSet i) (fullShare : PosShare TreeShare).left (landF m c)
/-- What its landing semaphore gives: the rows, landed. -/
def recvPay (c : Dev nD) (i : Fin 15) : sProp 𝕄 := cAt c (dstSet i) fullShare (landF m c)
/-- What the semaphore of the copy of `w`'s columns gives: them, and `w` back. -/
def wPay (c : Dev nD) : sProp 𝕄 := iprop(tAt c (wF m c) ∗ hAt m c (colsW c))
/-- What the semaphore of block `j` of the result gives: the block, written, and the buffer it was computed in. -/
def outPay (c : Dev nD) (j : Fin 17) : sProp 𝕄 :=
  iprop(rAt c (rowsO (olo c j) (olen j)) (outF m c) ∗ oAt c (rowsO (olo c j) (olen j)) (outF m c))

/-- What a neighbour's barrier signal hands device `c`: where `c`'s five transfers to it land. -/
def barPay (c : Dev nD) (d : Fin 3) : sProp 𝕄 :=
  if d = 0 then iprop(landing (flip 1 c) 0 ∗ landing (flip 1 c) 1 ∗ landing (flip 1 c) 10 ∗ landing (flip 1 c) 11 ∗ landing (flip 1 c) 14)
  else if d = 1 then iprop(landing (flip 3 c) 2 ∗ landing (flip 3 c) 3 ∗ landing (flip 3 c) 6 ∗ landing (flip 3 c) 7 ∗ landing (flip 3 c) 12)
  else iprop(landing (flip 4 c) 4 ∗ landing (flip 4 c) 5 ∗ landing (flip 4 c) 8 ∗ landing (flip 4 c) 9 ∗ landing (flip 4 c) 13)

/-- The payload of the DMA semaphore of number `v`. -/
def dmaPay (c : Dev nD) (v : ℕ) : sProp 𝕄 :=
  if v < 3 then iprop(emp) else if v < 18 then sendPay m c (Fin.ofNat 15 (v - 3)) else if v < 33 then recvPay m c (Fin.ofNat 15 (v - 18))
  else if v < 34 then wPay m c else outPay m c (Fin.ofNat 17 (v - 34))

/-- Its amount. -/
def dmaAmt (v : ℕ) : ℕ :=
  if v < 18 then rowsCredit (tlen (Fin.ofNat 15 (v - 3))) else if v < 33 then rowsCredit (tlen (Fin.ofNat 15 (v - 18)))
  else if v < 34 then wCredit else outCredit (olen (Fin.ofNat 17 (v - 34)))

theorem rowsCredit_pos (i : Fin 15) : 0 < rowsCredit (tlen i) := by revert i; decide +kernel
theorem outCredit_pos (j : Fin 17) : 0 < outCredit (olen j) := by revert j; decide +kernel
theorem wCredit_pos : 0 < wCredit := by decide +kernel

theorem dmaAmt_pos (v : ℕ) : 0 < dmaAmt v := by
  unfold dmaAmt
  (repeat' split)
  · exact rowsCredit_pos _
  · exact rowsCredit_pos _
  · exact wCredit_pos
  · exact outCredit_pos _

def semPay (c : Dev nD) (s : SemLoc sig) (d : Fin 3) : sProp 𝕄 :=
  match s with | .reg _ => barPay c d | .dma q => dmaPay m c q.val
def semAmt (s : SemLoc sig) : ℕ := match s with | .reg _ => 1 | .dma q => dmaAmt q.val

theorem semAmt_pos (s : SemLoc sig) : 0 < semAmt s := by cases s; exact Nat.one_pos; exact dmaAmt_pos _

/-- The duties of a semaphore: three for the barrier, one for the others. -/
def semDuties (s : SemLoc sig) : Finset (Fin 3) := match s with | .reg _ => Finset.univ | .dma _ => {0}

/-- One round: the barrier semaphore of a device has a unit from each neighbour, every other semaphore the credit of its copy. -/
def Rd : Rounds.Schedule (GSem nD τ sig) (Fin 3) 𝕄 where
  duties g r := if r = 0 ∧ g.1.2 = .tc then semDuties g.2 else ∅
  unitless _ := False
  amount g _ _ := semAmt g.2
  payload g _ d := semPay m g.1.1 g.2 d
  amount_pos g _ _ _ := semAmt_pos g.2

instance sendPay_storable (c i) : BI.Storable (upEmb : UEmb _ 𝕄) (sendPay (F := F) m c i) := by unfold sendPay; split <;> infer_instance
instance recvPay_storable (c i) : BI.Storable (upEmb : UEmb _ 𝕄) (recvPay (F := F) m c i) := by unfold recvPay; infer_instance
instance wPay_storable (c) : BI.Storable (upEmb : UEmb _ 𝕄) (wPay (F := F) m c) := by unfold wPay; infer_instance
instance outPay_storable (c j) : BI.Storable (upEmb : UEmb _ 𝕄) (outPay (F := F) m c j) := by unfold outPay; infer_instance
instance barPay_storable (c d) : BI.Storable (upEmb : UEmb _ 𝕄) (barPay (F := F) c d) := by
  unfold barPay; (repeat' split) <;> infer_instance
instance dmaPay_storable (c v) : BI.Storable (upEmb : UEmb _ 𝕄) (dmaPay (F := F) m c v) := by
  unfold dmaPay; (repeat' split) <;> infer_instance

instance Rd_payload_storable (g : GSem nD τ sig) (r : ℕ) (d : Fin 3) : BI.Storable (upEmb : UEmb _ 𝕄) ((Rd (F := F) m).payload g r d) := by
  show BI.Storable upEmb (semPay m g.1.1 g.2 d)
  unfold semPay; split <;> infer_instance

section Sched
variable (c : Dev nD)

theorem duties_bar : (Rd (F := F) m).duties (barC c) 0 = Finset.univ := by dsimp only [Rd]; exact if_pos ⟨rfl, rfl⟩
theorem duties_dma (s : DmaSem sig) : (Rd (F := F) m).duties (dC c s) 0 = {0} := by dsimp only [Rd]; exact if_pos ⟨rfl, rfl⟩
theorem duties_later (g : GSem nD τ sig) : ∀ r, 1 ≤ r → (Rd (F := F) m).duties g r = ∅ :=
  fun r hr => by dsimp only [Rd]; rw [if_neg fun h => by omega]

theorem mem_duties_bar (d : Fin 3) : d ∈ (Rd (F := F) m).duties (barC c) 0 := by rw [duties_bar]; exact Finset.mem_univ d
theorem mem_duties_dma (s : DmaSem sig) : (0 : Fin 3) ∈ (Rd (F := F) m).duties (dC c s) 0 := by rw [duties_dma]; exact Finset.mem_singleton_self _

theorem amount_bar (d : Fin 3) : (Rd (F := F) m).amount (barC c) 0 d = 1 := rfl
theorem amount_dma (s : DmaSem sig) : (Rd (F := F) m).amount (dC c s) 0 0 = dmaAmt s.val := rfl

theorem expect_bar : (Rd (F := F) m).expect (barC c) 0 = 3 := by
  unfold Schedule.expect Schedule.amountOf
  rw [duties_bar, Finset.sum_congr rfl fun d _ => amount_bar m c d, Finset.sum_const, Finset.card_univ, Fintype.card_fin, smul_eq_mul]
theorem expect_dma (s : DmaSem sig) : (Rd (F := F) m).expect (dC c s) 0 = dmaAmt s.val := by
  unfold Schedule.expect Schedule.amountOf; rw [duties_dma, Finset.sum_singleton, amount_dma]

theorem payload_bar (d : Fin 3) : (Rd (F := F) m).payload (barC c) 0 d = barPay c d := rfl
theorem payload_dma (s : DmaSem sig) (d : Fin 3) : (Rd (F := F) m).payload (dC c s) 0 d = dmaPay m c s.val := rfl

/-- The whole of the barrier's round. -/
theorem rest_bar : bigSep ((Rd (F := F) m).duties (barC c) 0 \ ∅) (fun d => (Rd (F := F) m).payload (barC c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
/-- The whole of a copy's round. -/
theorem rest_dma (s : DmaSem sig) : bigSep ((Rd (F := F) m).duties (dC c s) 0 \ ∅) (fun d => (Rd (F := F) m).payload (dC c s) 0 d) = dmaPay m c s.val := by
  rw [Finset.sdiff_empty, duties_dma, bigSep_singleton, payload_dma]

theorem dmaPay_send (i : Fin 15) : dmaPay (F := F) m c (sS i).val = sendPay m c i := by
  show dmaPay m c (3 + i.val) = _
  unfold dmaPay
  rw [if_neg (by omega), if_pos (by omega)]
  congr 1; apply Fin.ext; show (3 + i.val - 3) % 15 = i.val; omega
theorem dmaPay_recv (i : Fin 15) : dmaPay (F := F) m c (rS i).val = recvPay m c i := by
  show dmaPay m c (18 + i.val) = _
  unfold dmaPay
  rw [if_neg (by omega), if_neg (by omega), if_pos (by omega)]
  congr 1; apply Fin.ext; show (18 + i.val - 18) % 15 = i.val; omega
theorem dmaPay_w : dmaPay (F := F) m c wS.val = wPay m c := by
  show dmaPay m c 33 = _
  unfold dmaPay; rfl
theorem dmaPay_out (j : Fin 17) : dmaPay (F := F) m c (oS j).val = outPay m c j := by
  show dmaPay m c (34 + j.val) = _
  unfold dmaPay
  rw [if_neg (by omega), if_neg (by omega), if_neg (by omega), if_neg (by omega)]
  congr 1; apply Fin.ext; show (34 + j.val - 34) % 17 = j.val; omega

end Sched

theorem dmaAmt_send (i : Fin 15) : dmaAmt (sS i).val = rowsCredit (tlen i) := by
  show dmaAmt (3 + i.val) = _
  unfold dmaAmt
  rw [if_pos (by omega)]
  congr 2; apply Fin.ext; show (3 + i.val - 3) % 15 = i.val; omega
theorem dmaAmt_recv (i : Fin 15) : dmaAmt (rS i).val = rowsCredit (tlen i) := by
  show dmaAmt (18 + i.val) = _
  unfold dmaAmt
  rw [if_neg (by omega), if_pos (by omega)]
  congr 2; apply Fin.ext; show (18 + i.val - 18) % 15 = i.val; omega
theorem dmaAmt_w : dmaAmt wS.val = wCredit := by
  show dmaAmt 33 = _
  unfold dmaAmt; rfl
theorem dmaAmt_out (j : Fin 17) : dmaAmt (oS j).val = outCredit (olen j) := by
  show dmaAmt (34 + j.val) = _
  unfold dmaAmt
  rw [if_neg (by omega), if_neg (by omega), if_neg (by omega)]
  congr 2; apply Fin.ext; show (34 + j.val - 34) % 17 = j.val; omega

/-! ## What each device owes; the levels -/

/-- What device `c` still owes when the transfers of the list `l` have yet to be started: their credits at the neighbours. -/
def owedT (c : Dev nD) : List (Fin 15) → CellTallies nD τ sig Unit
  | [] => 0
  | i :: l => owedT c l + tallyAt (dC (flip (mask i) c) (rS i)) () (rowsCredit (tlen i))

/-- The order in which the transfers start. -/
abbrev order : List (Fin 15) := [0, 2, 4, 1, 3, 5, 6, 8, 10, 7, 9, 11, 12, 13, 14]

/-- At launch it owes also one unit to each neighbour's barrier. -/
def O₀ (c : Dev nD) : CellTallies nD τ sig Unit :=
  owedT c order + tallyAt (barC (flip 4 c)) () 1 + tallyAt (barC (flip 3 c)) () 1 + tallyAt (barC (flip 1 c)) () 1

def L (g : GSem nD τ sig) : Finset Unit := if g.1.2 = .tc then {()} else ∅

/-- The level of a DMA semaphore: the landing semaphores above the others, in the order in which rows are passed on. -/
def dlv (v : ℕ) : ℕ := if v < 18 then 0 else if v < 24 then 2 else if v < 30 then 3 else if v < 33 then 4 else 0
/-- The level of a semaphore. -/
def slv (s : SemLoc sig) : ℕ := match s with | .reg _ => 1 | .dma q => dlv q.val
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

/-- What is owed is owed to landing semaphores of the list's transfers. -/
theorem owedT_pos {c : Dev nD} {l : List (Fin 15)} {g : GSem nD τ sig} {u : Unit} (h : 0 < owedT c l g u) :
    ∃ i ∈ l, g = dC (flip (mask i) c) (rS i) := by
  induction l with
  | nil => exact absurd h (Nat.lt_irrefl 0)
  | cons i l ih =>
    unfold owedT at h
    rw [Pi.add_apply, Finsupp.add_apply, tallyAt_apply] at h
    by_cases hg : g = dC (flip (mask i) c) (rS i) ∧ u = ()
    · exact ⟨i, List.mem_cons_self, hg.1⟩
    · rw [if_neg hg, Nat.add_zero] at h
      obtain ⟨j, hj, e⟩ := ih h
      exact ⟨j, List.mem_cons_of_mem _ hj, e⟩

/-- A device may wait at a semaphore below every landing semaphore it still owes to. -/
theorem mayWait (c : Dev nD) (sm : SemLoc sig) (l : List (Fin 15)) (h : ∀ i ∈ l, slv sm < slv (.dma (rS i))) :
    (levAts L lv : sProp 𝕄) ⊢ MayWait (c : Thread nD τ) sm () (owedT c l) :=
  MayOwe.of_cut (L := L) (lev := lv) (slv sm) (fun p hp => by rw [Finset.mem_singleton.mp hp, L_tc]; exact Finset.mem_singleton_self _)
    (fun g u hg => by obtain ⟨i, _, rfl⟩ := owedT_pos hg; rw [L_tc]; exact Finset.mem_singleton_self _)
    (fun p hp => by rw [Finset.mem_singleton.mp hp]; exact le_refl _)
    (fun g u hg => by obtain ⟨i, hi, rfl⟩ := owedT_pos hg; exact h i hi)

theorem O₀_pos {c : Dev nD} {g : GSem nD τ sig} {u : Unit} (h : 0 < O₀ c g u) :
    (∃ i, g = dC (flip (mask i) c) (rS i)) ∨ ∃ k, g = barC (flip k c) := by
  unfold O₀ at h
  rw [Pi.add_apply, Finsupp.add_apply, Pi.add_apply, Finsupp.add_apply, Pi.add_apply, Finsupp.add_apply, tallyAt_apply, tallyAt_apply, tallyAt_apply] at h
  by_cases h1 : g = barC (flip 1 c) ∧ u = ()
  · exact .inr ⟨1, h1.1⟩
  by_cases h3 : g = barC (flip 3 c) ∧ u = ()
  · exact .inr ⟨3, h3.1⟩
  by_cases h4 : g = barC (flip 4 c) ∧ u = ()
  · exact .inr ⟨4, h4.1⟩
  rw [if_neg h1, if_neg h3, if_neg h4] at h
  simp only [Nat.add_zero] at h
  obtain ⟨i, _, e⟩ := owedT_pos h
  exact .inl ⟨i, e⟩

theorem slv_recv_pos (i : Fin 15) : 0 < slv (.dma (rS i)) := by revert i; decide

/-- A staging semaphore may be waited at whatever is owed. -/
theorem mayWait_stage (c : Dev nD) (q : DmaSem sig) (hq : slv (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨k, rfl⟩ <;> exact Finset.mem_singleton_self _)
      (fun p hp => by rw [Finset.mem_singleton.mp hp]; exact le_of_eq hq)
      (fun g u hg => by
        rcases O₀_pos hg with ⟨i, rfl⟩ | ⟨k, rfl⟩
        · exact slv_recv_pos i
        · exact Nat.one_pos)
  · rw [MayWait_zero]; iintro -; iempintro

/-! ## The cells by number, and what a device's body starts from -/

set_option backward.proofsInPublic true in
/-- The semaphores of the schedule, by number: the 48 DMA semaphores of the kernel, then the barrier. -/
def csem (k : Fin 49) : SemLoc sig := if h : k.val < 48 then .dma (dS (3 + k.val) (by omega)) else .reg barS
def kcell (ck : Dev nD × Fin 49) : GSem nD τ sig := ((ck.1 : Thread nD τ), csem ck.2)

set_option backward.proofsInPublic true in
def kS (i : Fin 15) : Fin 49 := ⟨i.val, by omega⟩
set_option backward.proofsInPublic true in
def kR (i : Fin 15) : Fin 49 := ⟨15 + i.val, by omega⟩
set_option backward.proofsInPublic true in
def kO (j : Fin 17) : Fin 49 := ⟨31 + j.val, by omega⟩

theorem csem_S (i : Fin 15) : csem (kS i) = .dma (sS i) := by revert i; decide
theorem csem_R (i : Fin 15) : csem (kR i) = .dma (rS i) := by revert i; decide
theorem csem_W : csem 30 = .dma wS := by decide
theorem csem_O (j : Fin 17) : csem (kO j) = .dma (oS j) := by revert j; decide
theorem csem_B : csem 48 = .reg barS := by decide

/-- The invariants of all the cells, under the names `K` they were allocated at, and that each has reached round 0; with the levels. -/
def recs (K : Dev nD × Fin 49 → ℕ) : sProp 𝕄 :=
  iprop((bigSep Finset.univ fun ck => cellInv ER (Rd m) (K ck) (kcell ck)) ∗ (bigSep Finset.univ fun ck => reached ER (kcell ck) 0) ∗ levAts L lv)

instance recs_persistent (K) : BI.Persistent (recs (F := F) m K) := by unfold recs; infer_instance

theorem recs_inv (K : Dev nD × Fin 49 → ℕ) (c : Dev nD) (k : Fin 49) (s : SemLoc sig) (h : csem k = s) :
    recs (F := F) m K ⊢ cellInv ER (Rd m) (K (c, k)) ((c : Thread nD τ), s) := by
  subst h
  unfold recs
  iintro ⟨#H, -⟩
  have e : (bigSep Finset.univ fun ck : Dev nD × Fin 49 => (cellInv ER (Rd m) (K ck) (kcell ck) : sProp 𝕄))
      ⊢ cellInv ER (Rd m) (K (c, k)) (kcell (c, k)) := bigSep_elim (Finset.mem_univ (c, k))
  iapply e $$ H

theorem recs_reached (K : Dev nD × Fin 49 → ℕ) (c : Dev nD) (k : Fin 49) (s : SemLoc sig) (h : csem k = s) :
    recs (F := F) m K ⊢ reached ER ((c : Thread nD τ), s) 0 := by
  subst h
  unfold recs
  iintro ⟨-, #H, -⟩
  have e : (bigSep Finset.univ fun ck : Dev nD × Fin 49 => (reached ER (kcell ck) 0 : sProp 𝕄)) ⊢ reached ER (kcell (c, k)) 0 :=
    bigSep_elim (Finset.mem_univ (c, k))
  iapply e $$ H

theorem recs_lev (K : Dev nD × Fin 49 → ℕ) : recs (F := F) m K ⊢ levAts L lv := by unfold recs; iintro ⟨-, -, #H⟩; iexact H

end Cert.KernelProof
-- ==== Proof.Views.lean ====
/-
# The views the kernel copies, loads and stores through

Which elements each of them covers, which element of its buffer each of its elements is, and what follows: a copy of a
view that reads the right contents leaves the right contents, and so does a store.
-/
module

public import proofs.«01_k».proof.Proof.Common
public import Idealize.ShloMosaic.Lib.ValueLayout

@[expose] public section

noncomputable section

namespace Cert.KernelProof

open Cert.Kernel Cert.Kernel.Gen

open Idealize.ShloMosaic
open Idealize.ShloMosaic.TcCoe

variable {F : FTy → Type} [FloatOps F]
variable (m : (ℓ : Loc nD τ sig) → Buf (Elt F) ℓ)

/-! ## Rows of a device's own block -/

section OwnRows
variable {n lo : ℕ} {inb : ∀ a, (![lo, 0] : Fin 2 → ℕ) a + (⟨2, ![n, 4096]⟩ : Shape).size a ≤ S512x4096.size a}

theorem set_x {hr} : ((xM.slice (Rect.unit (s := S512x4096) ![lo, 0] (⟨2, ![n, 4096]⟩ : Shape).size inb) hr).view.set : Finset S512x4096.Idx) = rowsX lo n := by
  refine (View.set_slice_whole _ _).trans ?_
  ext i
  rw [mem_rowsX]
  refine Rect.mem_set_unit.trans ((Fin.forall_fin_two (p := fun a : Fin 2 => (![lo, 0] : Fin 2 → ℕ) a ≤ (i a).val ∧
    (i a).val < (![lo, 0] : Fin 2 → ℕ) a + (⟨2, ![n, 4096]⟩ : Shape).size a)).trans ?_)
  exact ⟨fun h => h.1, fun h => ⟨h, Nat.zero_le _, by show (i 1).val < 0 + 4096; have : (i 1).val < 4096 := (i 1).isLt; omega⟩⟩

theorem setOn_x : ((xM.access (Rect.unit (s := S512x4096) ![lo, 0] (⟨2, ![n, 4096]⟩ : Shape).size inb)).set : Finset S512x4096.Idx) = rowsX lo n :=
  set_x (hr := fun _ => rfl)

theorem read_x {hr} (f : S512x4096.Idx → Elt F .fp8e5m2) (x : (⟨2, ![n, 4096]⟩ : Shape).Idx) (hb : lo + n ≤ 512) :
    (xM.slice (Rect.unit (s := S512x4096) ![lo, 0] (⟨2, ![n, 4096]⟩ : Shape).size inb) hr).view.read (Elt F) f x
      = f (ix2 ⟨lo + (x 0).val, by have : (x 0).val < n := (x 0).isLt; omega⟩ (x 1)) := by
  refine (View.read_apply _ _).trans ((cast_eq _ _).trans (congrArg f ?_))
  funext a
  apply Fin.ext
  match a with
  | ⟨0, _⟩ => show lo + 1 * (x 0).val = lo + (x 0).val; omega
  | ⟨1, _⟩ => show 0 + 1 * (x 1).val = (x 1).val; omega

end OwnRows

/-! ## Rows of a slot of the landing buffer -/

section Slots
variable {n s lo : ℕ} {inb : ∀ a, (![s, lo, 0] : Fin 3 → ℕ) a + (⟨3, ![1, n, 4096]⟩ : Shape).size a ≤ S7x512x4096.size a}

theorem set_c3 {hr} : ((cM.slice (Rect.unit (s := S7x512x4096) ![s, lo, 0] (⟨3, ![1, n, 4096]⟩ : Shape).size inb) hr).view.set : Finset S7x512x4096.Idx)
    = slotC s lo n := by
  refine (View.set_slice_whole _ _).trans ?_
  ext i
  rw [mem_slotC]
  refine Rect.mem_set_unit.trans ⟨fun h => ?_, fun h a => ?_⟩
  · have h0 : s ≤ (i 0).val ∧ (i 0).val < s + 1 := h 0
    have h1 : lo ≤ (i 1).val ∧ (i 1).val < lo + n := h 1
    exact ⟨by omega, h1⟩
  · match a with
    | ⟨0, _⟩ => show s ≤ (i 0).val ∧ (i 0).val < s + 1; omega
    | ⟨1, _⟩ => exact h.2
    | ⟨2, _⟩ => show 0 ≤ (i 2).val ∧ (i 2).val < 0 + 4096; have : (i 2).val < 4096 := (i 2).isLt; omega

theorem setOn_c : ((cM.access (Rect.unit (s := S7x512x4096) ![s, lo, 0] (⟨3, ![1, n, 4096]⟩ : Shape).size inb)).set : Finset S7x512x4096.Idx)
    = slotC s lo n := set_c3 (hr := fun _ => rfl)

theorem set_c {hr} {sq : (⟨3, ![1, n, 4096]⟩ : Shape).Squeezes ⟨2, ![n, 4096]⟩} :
    (((cM.slice (Rect.unit (s := S7x512x4096) ![s, lo, 0] (⟨3, ![1, n, 4096]⟩ : Shape).size inb) hr).squeeze ⟨2, ![n, 4096]⟩ sq).view.set
      : Finset S7x512x4096.Idx) = slotC s lo n := by
  exact (View.set_reshape _ _).trans set_c3

theorem read_c3 {hr} (f : S7x512x4096.Idx → Elt F .fp8e5m2) (x : (⟨3, ![1, n, 4096]⟩ : Shape).Idx) (hs : s < 7) (hb : lo + n ≤ 512) :
    (cM.slice (Rect.unit (s := S7x512x4096) ![s, lo, 0] (⟨3, ![1, n, 4096]⟩ : Shape).size inb) hr).view.read (Elt F) f x
      = f (ix3 ⟨s, hs⟩ ⟨lo + (x 1).val, by have : (x 1).val < n := (x 1).isLt; omega⟩ (x 2)) := by
  refine (View.read_apply _ _).trans ((cast_eq _ _).trans (congrArg f ?_))
  funext a
  apply Fin.ext
  match a with
  | ⟨0, _⟩ => show s + 1 * (x 0).val = s; have : (x 0).val < 1 := (x 0).isLt; omega
  | ⟨1, _⟩ => show lo + 1 * (x 1).val = lo + (x 1).val; omega
  | ⟨2, _⟩ => show 0 + 1 * (x 2).val = (x 2).val; omega

theorem read_c {hr} {sq : (⟨3, ![1, n, 4096]⟩ : Shape).Squeezes ⟨2, ![n, 4096]⟩} (f : S7x512x4096.Idx → Elt F .fp8e5m2)
    (x : (⟨2, ![n, 4096]⟩ : Shape).Idx) (hs : s < 7) (hb : lo + n ≤ 512) :
    ((cM.slice (Rect.unit (s := S7x512x4096) ![s, lo, 0] (⟨3, ![1, n, 4096]⟩ : Shape).size inb) hr).squeeze ⟨2, ![n, 4096]⟩ sq).view.read (Elt F) f x
      = f (ix3 ⟨s, hs⟩ ⟨lo + (x 0).val, by have : (x 0).val < n := (x 0).isLt; omega⟩ (x 1)) := by
  have hx : x = ix2 (x 0) (x 1) := (ix2_eta x).symm
  have h : Shape.reshapeEquiv sq.numel_eq x = (ix3 0 (x 0) (x 1) : (⟨3, ![1, n, 4096]⟩ : Shape).Idx) := by
    rw [hx]; exact ValueIdx.reshapeEquiv_ix2_1ab _ _ _
  have e : ((cM.slice (Rect.unit (s := S7x512x4096) ![s, lo, 0] (⟨3, ![1, n, 4096]⟩ : Shape).size inb) hr).squeeze ⟨2, ![n, 4096]⟩ sq).view.read (Elt F) f x
      = (cM.slice (Rect.unit (s := S7x512x4096) ![s, lo, 0] (⟨3, ![1, n, 4096]⟩ : Shape).size inb) hr).view.read (Elt F) f
          (Shape.reshapeEquiv sq.numel_eq x) := rfl
  rw [e, h, read_c3 f _ hs hb]
  rfl

end Slots

/-! ## Rows of the result, in the buffer it is computed in and in the kernel's result -/

section OutRows
variable {n lo : ℕ} {off : Fin 2 → ℕ} {inb : ∀ a, off a + (⟨2, ![n, 1024]⟩ : Shape).size a ≤ S4096x1024.size a}

theorem mem_out (h : off = ![lo, 0]) (i : S4096x1024.Idx) :
    i ∈ (Rect.unit (s := S4096x1024) off (⟨2, ![n, 1024]⟩ : Shape).size inb).set ↔ i ∈ rowsO lo n := by
  subst h
  rw [mem_rowsO]
  refine Rect.mem_set_unit.trans ?_
  rw [Fin.forall_fin_two]
  exact ⟨fun h => h.1, fun h => ⟨h, Nat.zero_le _, by show (i 1).val < 0 + 1024; have : (i 1).val < 1024 := (i 1).isLt; omega⟩⟩

theorem set_o {hr} (h : off = ![lo, 0]) :
    ((oM.slice (Rect.unit (s := S4096x1024) off (⟨2, ![n, 1024]⟩ : Shape).size inb) hr).view.set : Finset S4096x1024.Idx) = rowsO lo n := by
  refine (View.set_slice_whole _ _).trans ?_
  ext i
  exact mem_out h i
theorem setOn_o (h : off = ![lo, 0]) :
    ((oM.access (Rect.unit (s := S4096x1024) off (⟨2, ![n, 1024]⟩ : Shape).size inb)).set : Finset S4096x1024.Idx) = rowsO lo n :=
  set_o (hr := fun _ => rfl) h
theorem set_r {hr} (h : off = ![lo, 0]) :
    ((rM.slice (Rect.unit (s := S4096x1024) off (⟨2, ![n, 1024]⟩ : Shape).size inb) hr).view.set : Finset S4096x1024.Idx) = rowsO lo n := by
  refine (View.set_slice_whole _ _).trans ?_
  ext i
  exact mem_out h i

theorem read_o {hr} (h : off = ![lo, 0]) (f : S4096x1024.Idx → Elt F .f32) (x : (⟨2, ![n, 1024]⟩ : Shape).Idx) (hb : lo + n ≤ 4096) :
    (oM.slice (Rect.unit (s := S4096x1024) off (⟨2, ![n, 1024]⟩ : Shape).size inb) hr).view.read (Elt F) f x
      = f (ix2 ⟨lo + (x 0).val, by have : (x 0).val < n := (x 0).isLt; omega⟩ (x 1)) := by
  subst h
  refine (View.read_apply _ _).trans ((cast_eq _ _).trans (congrArg f ?_))
  funext a
  apply Fin.ext
  match a with
  | ⟨0, _⟩ => show lo + 1 * (x 0).val = lo + (x 0).val; omega
  | ⟨1, _⟩ => show 0 + 1 * (x 1).val = (x 1).val; omega
theorem read_r {hr} (h : off = ![lo, 0]) (f : S4096x1024.Idx → Elt F .f32) (x : (⟨2, ![n, 1024]⟩ : Shape).Idx) (hb : lo + n ≤ 4096) :
    (rM.slice (Rect.unit (s := S4096x1024) off (⟨2, ![n, 1024]⟩ : Shape).size inb) hr).view.read (Elt F) f x
      = f (ix2 ⟨lo + (x 0).val, by have : (x 0).val < n := (x 0).isLt; omega⟩ (x 1)) := by
  subst h
  refine (View.read_apply _ _).trans ((cast_eq _ _).trans (congrArg f ?_))
  funext a
  apply Fin.ext
  match a with
  | ⟨0, _⟩ => show lo + 1 * (x 0).val = lo + (x 0).val; omega
  | ⟨1, _⟩ => show 0 + 1 * (x 1).val = (x 1).val; omega

end OutRows

/-! ## The columns of `w` -/

theorem set_w (c : Dev nD) {off : Fin 2 → ℕ} {inb : ∀ a, off a + S4096x1024.size a ≤ S4096x8192.size a} {hr} (h : off = ![0, 1024 * c.val]) :
    ((hM.slice (Rect.unit (s := S4096x8192) off S4096x1024.size inb) hr).view.set : Finset S4096x8192.Idx) = colsW c := by
  subst h
  refine (View.set_slice_whole _ _).trans ?_
  ext i
  rw [mem_colsW]
  refine Rect.mem_set_unit.trans ((Fin.forall_fin_two (p := fun a : Fin 2 => (![0, 1024 * c.val] : Fin 2 → ℕ) a ≤ (i a).val ∧
    (i a).val < (![0, 1024 * c.val] : Fin 2 → ℕ) a + S4096x1024.size a)).trans ?_)
  exact ⟨fun h => h.2, fun h => ⟨⟨Nat.zero_le _, by show (i 0).val < 0 + 4096; have : (i 0).val < 4096 := (i 0).isLt; omega⟩, h⟩⟩

theorem read_w (c : Dev nD) {off : Fin 2 → ℕ} {inb : ∀ a, off a + S4096x1024.size a ≤ S4096x8192.size a} {hr} (h : off = ![0, 1024 * c.val]) :
    (hM.slice (Rect.unit (s := S4096x8192) off S4096x1024.size inb) hr).view.read (Elt F) (m ((c : Thread nD τ).loc main_arg1)) = wF m c := by
  subst h
  funext x
  refine (View.read_apply _ _).trans ((cast_eq _ _).trans ?_)
  unfold wF
  refine congrArg (m ((c : Thread nD τ).loc main_arg1) : S4096x8192.Idx → Elt F .fp8e5m2) ?_
  funext a
  apply Fin.ext
  match a with
  | ⟨0, _⟩ => show 0 + 1 * (x 0).val = (x 0).val; omega
  | ⟨1, _⟩ => show 1024 * c.val + 1 * (x 1).val = 1024 * c.val + (x 1).val; omega

/-! ## Writing through a view -/

/-- Writing through a view what the contents `g` read there leaves `g` on the view's elements. -/
theorem write_agrees {κ : Kind} {sp : Space} {s : Shape} {e : EltTy} (v : View sig κ sp s e) (fd g : v.ty.Contents (Elt F)) (w : s.Idx → Elt F e)
    (h : w = v.read (Elt F) g) : ∀ i ∈ v.set, v.write (Elt F) fd w Finset.univ i = g i := by
  intro i hi
  subst h
  rw [View.write_read_eq_piecewise]
  exact Finset.piecewise_eq_of_mem _ _ _ hi

/-! ## What is loaded, and the payloads -/

/-- `n` rows of a slot as they are loaded, with a leading extent of one. -/
def chunk (d : Dev nD) (lo n : ℕ) (h : lo + n ≤ 512) : (⟨3, ![1, n, 4096]⟩ : Shape).Idx → Elt F .fp8e5m2 :=
  fun i => X m d (ix2 ⟨lo + (i 1).val, by have : (i 1).val < n := (i 1).isLt; omega⟩ (i 2))

theorem shapeCast_chunk (d : Dev nD) (lo n : ℕ) (h : lo + n ≤ 512) (hc) :
    shapeCast (⟨2, ![n, 4096]⟩ : Shape) (chunk m d lo n h) hc = xrows m d lo n h := by
  funext x
  have hx : x = ix2 (x 0) (x 1) := (ix2_eta x).symm
  have e : Shape.reshapeEquiv hc x = (ix3 0 (x 0) (x 1) : (⟨3, ![1, n, 4096]⟩ : Shape).Idx) := by
    rw [hx]; exact ValueIdx.reshapeEquiv_ix2_1ab _ _ _
  have e' : shapeCast (⟨2, ![n, 4096]⟩ : Shape) (chunk m d lo n h) hc x = chunk m d lo n h (Shape.reshapeEquiv hc x) := rfl
  rw [e', e]
  rfl

end Cert.KernelProof
-- ==== Proof.Steps.lean ====
/-
# The steps of the body

One lemma per kind of operation: a transfer from a device's own rows, a transfer from the landing buffer, the copy of the columns of
`w`, the store of a block of the result with the copy that follows, a wait at a DMA semaphore, and the loads. Each takes
what the operation needs from the schedule as one bundle and gives back the bundle that the matching wait needs.
-/
module

public import proofs.«01_k».proof.Proof.Views

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 49 → ℕ)

abbrev 𝒱₀ : Variants := Variants.none

/-! ## The bundles -/

/-- What device `c` owes while the transfers of `l` have yet to start. -/
def OW (c : Dev nD) (l : List (Fin 15)) : sProp 𝕄 := iprop(∃ W, owes (c : Thread nD τ) (owedT c l) W)

/-- What starting transfer `i` takes from the schedule. -/
def SK (c : Dev nD) (i : Fin 15) : sProp 𝕄 :=
  iprop(dutyTok ER (dC c (sS i)) 0 0 ∗ dutyTok ER (dC (flip (mask i) c) (rS i)) 0 0 ∗ atPos ER (dC c (sS i)) 0 ∅ 0)
/-- What starting a copy within the device takes from the schedule. -/
def LK (c : Dev nD) (s : DmaSem sig) : sProp 𝕄 := iprop(dutyTok ER (dC c s) 0 0 ∗ atPos ER (dC c s) 0 ∅ 0)
/-- What a wait at semaphore `s` takes. -/
def WK (c : Dev nD) (s : DmaSem sig) : sProp 𝕄 := iprop(cred (tallyAt (dC c s) () (dmaAmt s.val)) ∗ atPos ER (dC c s) 0 ∅ 0)
/-- What it gives. -/
def Got (c : Dev nD) (s : DmaSem sig) : sProp 𝕄 := iprop(dmaPay m c s.val ∗ semVal (dC c s) 0)

/-- All that transfer `i` needs but its source. -/
def ST (c : Dev nD) (i : Fin 15) : sProp 𝕄 := iprop(SK c i ∗ landing (flip (mask i) c) i)
/-- All that block `j` of the result needs. -/
def OT (c : Dev nD) (j : Fin 17) : sProp 𝕄 :=
  iprop(LK c (oS j) ∗ (∃ f, oAt c (rowsO (olo c j) (olen j)) f) ∗ (∃ f, rAt c (rowsO (olo c j) (olen j)) f))

/-- All that the copy of block `j`, computed, needs. -/
def OV (c : Dev nD) (j : Fin 17) : sProp 𝕄 :=
  iprop(LK c (oS j) ∗ oAt c (rowsO (olo c j) (olen j)) (outF m c) ∗ (∃ f, rAt c (rowsO (olo c j) (olen j)) f))
/-- The semaphore of a copy, at zero again. -/
def SV (c : Dev nD) (s : DmaSem sig) : sProp 𝕄 := semVal (dC c s) 0

/-- The share of its own rows that transfer `i` reads with. -/
def XS (c : Dev nD) (i : Fin 15) : sProp 𝕄 := xAt c (rowsX (tlo i) (tlen i)) (shareX i) (X m c)

/-- The half of a share of `n` landed rows that is lent to a transfer, -/
def CL (c : Dev nD) (s lo n : ℕ) : sProp 𝕄 := cAt c (slotC s lo n) (fullShare : PosShare TreeShare).left (landF m c)
/-- and the half that the kernel reads with. -/
def CR (c : Dev nD) (s lo n : ℕ) : sProp 𝕄 := cAt c (slotC s lo n) (fullShare : PosShare TreeShare).right (landF m c)

/-- What the wait for block `j` of the result gives, -/
def OG (c : Dev nD) (j : Fin 17) : sProp 𝕄 := iprop(outPay m c j ∗ SV c (oS j))
/-- and the wait for the source of transfer `i`. -/
def SG (c : Dev nD) (i : Fin 15) : sProp 𝕄 := iprop(sendPay m c i ∗ SV c (sS i))

/-! ## Transfers -/

theorem tlo_le (i : Fin 15) : tlo i + tlen i ≤ 512 := by revert i; decide
theorem dslot_lt (i : Fin 15) : dslot i < 7 := by revert i; decide
theorem sslot_own (i : Fin 15) (hi : i.val < 6) : sslot i = 7 := by revert i; decide
theorem sslot_lt (i : Fin 15) (hi : ¬ i.val < 6) : sslot i < 7 := by revert i; decide
theorem olo_le (c : Dev nD) (j : Fin 17) : olo c j + olen j ≤ 4096 := by revert c j; decide +kernel

/-- What lands in slot `s` from rows that are device `d`'s is what is to be held there. -/
theorem landed_rows {n s lo : ℕ} {inb : ∀ a, (![s, lo, 0] : Fin 3 → ℕ) a + (⟨3, ![1, n, 4096]⟩ : Shape).size a ≤ S7x512x4096.size a} {hr}
    {sq : (⟨3, ![1, n, 4096]⟩ : Shape).Squeezes ⟨2, ![n, 4096]⟩} (p d : Dev nD) (hs : s < 7) (hb : lo + n ≤ 512) (hd : flip (slotMask s) p = d)
    (x : (⟨2, ![n, 4096]⟩ : Shape).Idx) :
    ((cM.slice (Rect.unit (s := S7x512x4096) ![s, lo, 0] (⟨3, ![1, n, 4096]⟩ : Shape).size inb) hr).squeeze ⟨2, ![n, 4096]⟩ sq).view.read (Elt F) (landF m p) x
      = xrows m d lo n hb x := by
  rw [read_c _ x hs hb]
  unfold landF xrows
  rw [← hd]
  rfl

section Xfer
variable (c : Dev nD)

/-- Transfer `i`, of a source that reads what the target is to hold. -/
theorem send {α : Type} {Q : α → sProp 𝕄} {k : PUnit → Prog (TpuEff nD τ sig (Elt F) Λ₀ .tc) α} (i : Fin 15) (l : List (Fin 15))
    {n s lo : ℕ} (hn : tlen i = n) (hs : dslot i = s) (hl : tlo i = lo) (hb : lo + n ≤ 512)
    (src : Memref sig .tc .vmem ⟨2, ![n, 4096]⟩ .fp8e5m2) (q : PosShare TreeShare) (fs : Buf (Elt F) (src.view.loc (c : Thread nD τ)))
    (hread : ∀ x, src.view.read (Elt F) fs x = xrows m (flip (slotMask (sslot i)) c) lo n hb x)
    (hpay : (src.view.loc (c : Thread nD τ) ↦[src.view.set]{q} fs) ⊢ sendPay m c i)
    {p : Dev nD} (hp : p = flip (mask i) c) {qs qr : DmaSem sig} (hqs : qs = sS i) (hqr : qr = rS i)
    {inb : ∀ a, (![s, lo, 0] : Fin 3 → ℕ) a + (⟨3, ![1, n, 4096]⟩ : Shape).size a ≤ S7x512x4096.size a} {hr}
    {sq : (⟨3, ![1, n, 4096]⟩ : Shape).Squeezes ⟨2, ![n, 4096]⟩} {hsc hsrc hdst hsem} :
    iprop(recs m K ∗ OW c (i :: l) ∗ ST c i ∗ (src.view.loc (c : Thread nD τ) ↦[src.view.set]{q} fs))
      ⊢ iprop(((WK c (sS i) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src
                (.remote (Dev.tc p : Thread nD τ)
                  ((cM.slice (Rect.unit (s := S7x512x4096) ![s, lo, 0] (⟨3, ![1, n, 4096]⟩ : Shape).size inb) hr).squeeze ⟨2, ![n, 4096]⟩ sq)
                  (.dma qs) hsc) (.dma qr) hsrc hdst hsem) k) Q) := by
  subst hn hs hl
  subst hp hqs hqr
  iintro ⟨#HR, HO, HT, Hx⟩ Hk
  unfold OW
  icases HO with ⟨%W, HO⟩
  unfold ST SK landing cAt
  icases HT with ⟨⟨Ht1, Ht2, Hat⟩, ⟨%fd, Hd⟩⟩
  ihave #Hi1 := (recs_inv m K c (kS i) _ (csem_S i)) $$ HR
  ihave #Hi2 := (recs_inv m K (flip (mask i) c) (kR i) _ (csem_R i)) $$ HR
  ihave #Hr1 := (recs_reached m K c (kS i) _ (csem_S i)) $$ HR
  ihave #Hr2 := (recs_reached m K (flip (mask i) c) (kR i) _ (csem_R i)) $$ HR
  iapply (Rounds.wp_send_pointsTo 𝒱₀ ER (Rd m) (c : Thread nD τ) none (κ₁ := K (c, kS i)) (κ₂ := K (flip (mask i) c, kR i))
    (r₁ := 0) (r₂ := 0) (d₁ := 0) (d₂ := 0) (fd := fd) (q := q) (fs := fs)
    (mem_duties_dma m c (sS i)) (mem_duties_dma m (flip (mask i) c) (rS i))
    () () (rowsCredit (tlen i)) rfl ((amount_dma m c (sS i)).trans (dmaAmt_send i)) ((amount_dma m (flip (mask i) c) (rS i)).trans (dmaAmt_recv i))
    (owedT c l) rfl (W := W)
    (by
      rw [payload_dma, dmaPay_send]
      exact hpay)
    (by
      rw [payload_dma, dmaPay_recv]
      unfold recvPay dstSet cAt
      rw [set_c]
      refine Entails.of_eq (pointsTo_congr fun j hj => ?_)
      refine write_agrees (((cM.slice (Rect.unit (s := S7x512x4096) ![dslot i, tlo i, 0] (⟨3, ![1, tlen i, 4096]⟩ : Shape).size inb) hr).squeeze
        ⟨2, ![tlen i, 4096]⟩ sq).view) fd (landF m (flip (mask i) c)) _ (funext fun x => ?_) j (by rw [set_c]; exact hj)
      rw [hread x, landed_rows m (flip (mask i) c) _ (dslot_lt i) (tlo_le i) (slot_flip i c) x])) $$ [HO Ht1 Ht2 Hd Hx]
  · isplitr; · iexact Hi1
    isplitr; · iexact Hi2
    isplitl [Hx]; · iexact Hx
    isplitl [Hd]
    · rw [set_c]
      iexact Hd
    isplitl [HO]; · iexact HO
    isplitl [Ht1]; · iexact Ht1
    isplitr; · iexact Hr1
    isplitl [Ht2]; · iexact Ht2
    iexact Hr2
  iintro ⟨Hc, HO⟩
  iapply Hk
  unfold WK
  rw [dmaAmt_send]
  isplitl [Hc Hat]
  · isplitl [Hc] <;> iassumption
  iexists W
  iexact HO

/-- The transfer `i` of `n` of the device's own rows, from row `lo` on, into slot `s` of a neighbour. -/
theorem send_x {α : Type} {Q : α → sProp 𝕄} {k : PUnit → Prog (TpuEff nD τ sig (Elt F) Λ₀ .tc) α} (i : Fin 15) (hi : i.val < 6) (l : List (Fin 15))
    {n s lo : ℕ} (hn : tlen i = n) (hs : dslot i = s) (hl : tlo i = lo)
    {p : Dev nD} (hp : p = flip (mask i) c) {qs qr : DmaSem sig} (hqs : qs = sS i) (hqr : qr = rS i)
    {inb1 : ∀ a, (![lo, 0] : Fin 2 → ℕ) a + (⟨2, ![n, 4096]⟩ : Shape).size a ≤ S512x4096.size a} {hr1}
    {inb2 : ∀ a, (![s, lo, 0] : Fin 3 → ℕ) a + (⟨3, ![1, n, 4096]⟩ : Shape).size a ≤ S7x512x4096.size a} {hr2}
    {sq : (⟨3, ![1, n, 4096]⟩ : Shape).Squeezes ⟨2, ![n, 4096]⟩} {hsc hsrc hdst hsem} :
    iprop(recs m K ∗ OW c (i :: l) ∗ ST c i ∗ XS m c i)
      ⊢ iprop(((WK c (sS i) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S512x4096) ![lo, 0] (⟨2, ![n, 4096]⟩ : Shape).size inb1) hr1)
                (.remote (Dev.tc p : Thread nD τ)
                  ((cM.slice (Rect.unit (s := S7x512x4096) ![s, lo, 0] (⟨3, ![1, n, 4096]⟩ : Shape).size inb2) hr2).squeeze ⟨2, ![n, 4096]⟩ sq)
                  (.dma qs) hsc) (.dma qr) hsrc hdst hsem) k) Q) := by
  have hb : lo + n ≤ 512 := by rw [← hn, ← hl]; exact tlo_le i
  unfold XS xAt
  rw [hl, hn, ← set_x (inb := inb1) (hr := hr1)]
  refine send m K c i l hn hs hl hb (xM.slice (Rect.unit (s := S512x4096) ![lo, 0] (⟨2, ![n, 4096]⟩ : Shape).size inb1) hr1) (shareX i) (X m c)
    (fun x => ?_) ?_ hp hqs hqr
  · rw [sslot_own i hi]
    refine (read_x (X m c) x hb).trans ?_
    unfold xrows
    rw [show slotMask 7 = 0 from rfl, flip_zero]
  · unfold sendPay xAt
    rw [if_pos hi, set_x, hn, hl]

/-- The transfer `i` of `n` rows of slot `s'`, from row `lo` on, into slot `s` of a neighbour. -/
theorem send_c {α : Type} {Q : α → sProp 𝕄} {k : PUnit → Prog (TpuEff nD τ sig (Elt F) Λ₀ .tc) α} (i : Fin 15) (hi : ¬ i.val < 6) (l : List (Fin 15))
    {n s s' lo : ℕ} (hn : tlen i = n) (hs : dslot i = s) (hs' : sslot i = s') (hl : tlo i = lo)
    {p : Dev nD} (hp : p = flip (mask i) c) {qs qr : DmaSem sig} (hqs : qs = sS i) (hqr : qr = rS i)
    {inb1 : ∀ a, (![s', lo, 0] : Fin 3 → ℕ) a + (⟨3, ![1, n, 4096]⟩ : Shape).size a ≤ S7x512x4096.size a} {hr1}
    {inb2 : ∀ a, (![s, lo, 0] : Fin 3 → ℕ) a + (⟨3, ![1, n, 4096]⟩ : Shape).size a ≤ S7x512x4096.size a} {hr2}
    {sq1 sq2 : (⟨3, ![1, n, 4096]⟩ : Shape).Squeezes ⟨2, ![n, 4096]⟩} {hsc hsrc hdst hsem} :
    iprop(recs m K ∗ OW c (i :: l) ∗ ST c i ∗ CL m c s' lo n)
      ⊢ iprop(((WK c (sS i) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((cM.slice (Rect.unit (s := S7x512x4096) ![s', lo, 0] (⟨3, ![1, n, 4096]⟩ : Shape).size inb1) hr1).squeeze ⟨2, ![n, 4096]⟩ sq1)
                (.remote (Dev.tc p : Thread nD τ)
                  ((cM.slice (Rect.unit (s := S7x512x4096) ![s, lo, 0] (⟨3, ![1, n, 4096]⟩ : Shape).size inb2) hr2).squeeze ⟨2, ![n, 4096]⟩ sq2)
                  (.dma qs) hsc) (.dma qr) hsrc hdst hsem) k) Q) := by
  have hb : lo + n ≤ 512 := by rw [← hn, ← hl]; exact tlo_le i
  unfold CL cAt
  rw [← set_c (inb := inb1) (hr := hr1) (sq := sq1)]
  refine send m K c i l hn hs hl hb ((cM.slice (Rect.unit (s := S7x512x4096) ![s', lo, 0] (⟨3, ![1, n, 4096]⟩ : Shape).size inb1) hr1).squeeze ⟨2, ![n, 4096]⟩ sq1)
    (fullShare : PosShare TreeShare).left (landF m c) (fun x => ?_) ?_ hp hqs hqr
  · rw [hs']
    exact landed_rows m c _ (hs' ▸ sslot_lt i hi) hb rfl x
  · unfold sendPay cAt srcSet
    rw [if_neg hi, set_c, hn, hl, hs']

end Xfer

/-! ## Copies within a device -/

section Local
variable (c : Dev nD)

/-- The copy of the columns of `w`. -/
theorem copy_w {α : Type} {Q : α → sProp 𝕄} {k : PUnit → Prog (TpuEff nD τ sig (Elt F) Λ₀ .tc) α} {off : Fin 2 → ℕ}
    {inb : ∀ a, off a + S4096x1024.size a ≤ S4096x8192.size a} {hr} (h : off = ![0, 1024 * c.val])
    {q : DmaSem sig} (hq : q = wS) {hsrc hdst hsem} :
    iprop(recs m K ∗ LK c wS ∗ hAt m c (colsW c) ∗ ∃ f, tAt c f)
      ⊢ iprop((WK c wS -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (hM.slice (Rect.unit (s := S4096x8192) off S4096x1024.size inb) hr) (.here tM) (.dma q) hsrc hdst hsem) k) Q) := by
  subst hq
  iintro ⟨#HR, HL, Hh, %fd, Hd⟩ Hk
  unfold LK hAt tAt
  icases HL with ⟨Ht, Hat⟩
  ihave #Hi := (recs_inv m K c 30 _ csem_W) $$ HR
  ihave #Hr := (recs_reached m K c 30 _ csem_W) $$ HR
  iapply (Rounds.wp_copy_pointsTo 𝒱₀ ER (Rd m) (c : Thread nD τ) none (κ := K (c, 30)) (r := 0) (d := 0) (q := fullShare)
    (fs := m ((c : Thread nD τ).loc main_arg1)) (fd := fd)
    (mem_duties_dma m c wS) () wCredit rfl ((amount_dma m c wS).trans dmaAmt_w)
    (by
      rw [payload_dma, dmaPay_w]
      unfold wPay tAt hAt
      rw [set_w c h, View.set_whole]
      refine sep_mono_left (Entails.of_eq (pointsTo_congr fun j hj => ?_))
      exact write_agrees (View.whole cc0_scratch3) fd (wF m c) _ (read_w m c h) j (by rw [View.set_whole]; exact hj))) $$ [Ht Hh Hd]
  · isplitr; · iexact Hi
    isplitl [Hh]
    · rw [set_w c h]
      iexact Hh
    isplitl [Hd]
    · rw [View.set_whole]
      iexact Hd
    isplitl [Ht]; · iexact Ht
    iexact Hr
  iintro Hc
  iapply Hk
  unfold WK
  rw [dmaAmt_w]
  isplitl [Hc] <;> iassumption

/-- A load of rows of the result's buffer whose value is not used. -/
theorem load_o {α : Type} {Q : α → sProp 𝕄} (j : Fin 17) {n : ℕ} {off : Fin 2 → ℕ} (hn : olen j = n) (h : off = ![olo c j, 0])
    {inb : ∀ a, off a + (⟨2, ![n, 1024]⟩ : Shape).size a ≤ S4096x1024.size a}
    {k : ((⟨2, ![n, 1024]⟩ : Shape).Idx → Elt F .f32) → Prog (TpuEff nD τ sig (Elt F) Λ₀ .tc) α} {hl} :
    OT c j ⊢ iprop((∀ v, OT c j -∗ wp frame (wpE (defs₀ (F := F)) 𝒱₀ (c : Thread nD τ) none) Set.univ (k v) Q)
          -∗ wp frame (wpE (defs₀ (F := F)) 𝒱₀ (c : Thread nD τ) none) Set.univ
              (.op (.load oM (Rect.unit (s := S4096x1024) off (⟨2, ![n, 1024]⟩ : Shape).size inb).toLoadRect hl) k) Q) := by
  subst hn
  unfold OT oAt
  iintro ⟨HL, ⟨%f, Ho⟩, Hr⟩ Hk
  iapply (wp_load_rect 𝒱₀ (c : Thread nD τ) none Set.univ (m := oM) (r := Rect.unit (s := S4096x1024) off (⟨2, ![olen j, 1024]⟩ : Shape).size inb)
    (k := k) (S := rowsO (olo c j) (olen j)) (q := fullShare) (f := f) (by rw [setOn_o h])) $$ Ho
  iintro Ho
  iapply Hk
  isplitl [HL]; · iexact HL
  isplitl [Ho]
  · iexists f; iexact Ho
  iexact Hr

/-- The store of block `j` of the result, of contents `v`. -/
theorem store_o {α : Type} {Q : α → sProp 𝕄} {k : PUnit → Prog (TpuEff nD τ sig (Elt F) Λ₀ .tc) α} (j : Fin 17) {n : ℕ} {off : Fin 2 → ℕ}
    (hn : olen j = n) (h : off = ![olo c j, 0]) (hb : olo c j + n ≤ 4096)
    {inb : ∀ a, off a + (⟨2, ![n, 1024]⟩ : Shape).size a ≤ S4096x1024.size a}
    (v : (⟨2, ![n, 1024]⟩ : Shape).Idx → Elt F .f32)
    (hv : ∀ x, v x = outF m c (ix2 ⟨olo c j + (x 0).val, by have : (x 0).val < n := (x 0).isLt; omega⟩ (x 1))) {hx hm} :
    OT c j ⊢ iprop((OV m c j -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S4096x1024) off (⟨2, ![n, 1024]⟩ : Shape).size inb) v Finset.univ hx hm) k) Q) := by
  subst hn
  unfold OT OV oAt rAt
  iintro ⟨HL, ⟨%fo, Ho⟩, ⟨%fr, Hr⟩⟩ Hk
  iapply (wp_store 𝒱₀ (c : Thread nD τ) none Set.univ (m := oM) (r := Rect.unit (s := S4096x1024) off (⟨2, ![olen j, 1024]⟩ : Shape).size inb)
    (w := v) (Mk := Finset.univ) (S := rowsO (olo c j) (olen j)) (f := fo)
    (by rw [← setOn_o (inb := inb) h]; exact subset_of_eq rfl)) $$ Ho
  iintro Ho
  have hw : (((c : Thread nD τ).loc cc0_scratch4) ↦[rowsO (olo c j) (olen j)]{fullShare}
      ((oM.access (Rect.unit (s := S4096x1024) off (⟨2, ![olen j, 1024]⟩ : Shape).size inb)).write (Elt F) fo v Finset.univ) : sProp 𝕄)
      = (((c : Thread nD τ).loc cc0_scratch4) ↦[rowsO (olo c j) (olen j)]{fullShare} outF m c) := pointsTo_congr fun i hi =>
    write_agrees (oM.access (Rect.unit (s := S4096x1024) off (⟨2, ![olen j, 1024]⟩ : Shape).size inb)) fo (outF m c) v
      (funext fun x => (hv x).trans (read_o (hr := fun _ => rfl) h (outF m c) x hb).symm) i (by rw [setOn_o h]; exact hi)
  ihave Ho' := (Entails.of_eq hw) $$ Ho
  iapply Hk
  iframe HL Ho'
  iexists fr
  iexact Hr

/-- The copy of block `j`, stored, to the kernel's result. -/
theorem copy_o {α : Type} {Q : α → sProp 𝕄} {k : PUnit → Prog (TpuEff nD τ sig (Elt F) Λ₀ .tc) α} (j : Fin 17) {n : ℕ} {off : Fin 2 → ℕ}
    (hn : olen j = n) (h : off = ![olo c j, 0])
    {inb : ∀ a, off a + (⟨2, ![n, 1024]⟩ : Shape).size a ≤ S4096x1024.size a} {hr hr'}
    {q : DmaSem sig} (hq : q = oS j) {hsrc hdst hsem} :
    iprop(recs m K ∗ OV m c j)
      ⊢ iprop((WK c (oS j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM.slice (Rect.unit (s := S4096x1024) off (⟨2, ![n, 1024]⟩ : Shape).size inb) hr)
                  (.here (rM.slice (Rect.unit (s := S4096x1024) off (⟨2, ![n, 1024]⟩ : Shape).size inb) hr')) (.dma q) hsrc hdst hsem) k) Q) := by
  have hb : olo c j + n ≤ 4096 := by rw [← hn]; exact olo_le c j
  subst hn hq
  iintro ⟨#HR, HT⟩ Hk
  unfold OV LK oAt rAt
  icases HT with ⟨⟨Ht, Hat⟩, Ho, ⟨%fr, Hr⟩⟩
  ihave #Hi := (recs_inv m K c (kO j) _ (csem_O j)) $$ HR
  ihave #Hre := (recs_reached m K c (kO j) _ (csem_O j)) $$ HR
  iapply (Rounds.wp_copy_pointsTo 𝒱₀ ER (Rd m) (c : Thread nD τ) none (κ := K (c, kO j)) (r := 0) (d := 0) (q := fullShare)
    (fs := outF m c) (fd := fr)
    (mem_duties_dma m c (oS j)) () (outCredit (olen j)) rfl ((amount_dma m c (oS j)).trans (dmaAmt_out j))
    (by
      rw [payload_dma, dmaPay_out]
      unfold outPay rAt oAt
      rw [set_r h, set_o h]
      refine sep_mono_left (Entails.of_eq (pointsTo_congr fun i hi => ?_))
      exact write_agrees (rM.slice (Rect.unit (s := S4096x1024) off (⟨2, ![olen j, 1024]⟩ : Shape).size inb) hr').view fr (outF m c) _
        (funext fun x => (read_o h (outF m c) x hb).trans (read_r h (outF m c) x hb).symm) i (by rw [set_r h]; exact hi))) $$ [Ht Ho Hr]
  · isplitr; · iexact Hi
    isplitl [Ho]
    · rw [set_o h]
      iexact Ho
    isplitl [Hr]
    · rw [set_r h]
      iexact Hr
    isplitl [Ht]; · iexact Ht
    iexact Hre
  iintro Hc
  iapply Hk
  unfold WK
  rw [dmaAmt_out]
  isplitl [Hc] <;> iassumption

end Local

/-! ## Waits -/

section Waits
variable (c : Dev nD)

/-- A wait at the DMA semaphore `q`, of number `kq` in the schedule, for the amount of its round. -/
theorem wait_dma {α : Type} {Q : α → sProp 𝕄} {k : PUnit → Prog (TpuEff nD τ sig (Elt F) Λ₀ .tc) α} (q : DmaSem sig) (kq : Fin 49)
    (hkq : csem kq = .dma q) (l : List (Fin 15)) (hl : ∀ i ∈ l, slv (.dma q) < slv (.dma (rS i))) {q' : DmaSem sig} (hq : q' = q)
    {sp sp' : Space} {s s' : Shape} {e e' : EltTy} {src : Memref sig .tc sp' s' e'} {dst : Memref sig .tc sp s e}
    (hA : dst.view.dmaCredit = dmaAmt q.val) {hsrc hdst} :
    iprop(recs m K ∗ OW c l ∗ WK c q)
      ⊢ iprop(((Got m c q ∗ OW c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  subst hq
  iintro ⟨#HR, HO, HW⟩ Hk
  unfold OW WK
  icases HO with ⟨%W, HO⟩
  icases HW with ⟨Hc, Hat⟩
  ihave #Hi := (recs_inv m K c kq _ hkq) $$ HR
  ihave #Hlv := (recs_lev m K) $$ HR
  rw [← hA]
  iapply (Rounds.wp_wait_rest_token 𝒱₀ ER (Rd m) (c : Thread nD τ) none (κ := K (c, kq))
    (wpE_waitDma2_eq 𝒱₀ (c : Thread nD τ) none Set.univ) (Set.mem_univ _) () (O := owedT c l) (W := W) (R := 0) (m := 0) (T := ∅)
    (by rw [Nat.zero_add, hA, expect_dma])) $$ [Hc HO Hat]
  · isplitr; · iexact Hi
    isplitl [Hc]; · iexact Hc
    isplitl [HO]; · iexact HO
    isplitr; · iapply (mayWait c (.dma q') l hl) $$ Hlv
    iexact Hat
  iintro ⟨HO, Hat, -, Hpay⟩
  ihave Hp := (Entails.of_eq (rest_dma m c q')) $$ Hpay
  imod (Rounds.cell_close ER (Rd m) (Set.mem_univ (K (c, kq))) (fun h => h) (R := 0 + 1) (duties_later m (dC c q'))) $$ [Hat] with Hz
  · isplitr; · iexact Hi
    iexact Hat
  iapply Hk
  unfold Got
  isplitl [Hp Hz]
  · isplitl [Hp] <;> iassumption
  iexists _
  iexact HO

/-- The wait for transfer `i` to land, -/
theorem wait_r {α : Type} {Q : α → sProp 𝕄} {k : PUnit → Prog (TpuEff nD τ sig (Elt F) Λ₀ .tc) α} (i : Fin 15)
    (l : List (Fin 15)) (hl : ∀ i' ∈ l, slv (.dma (rS i)) < slv (.dma (rS i'))) {q' : DmaSem sig} (hq : q' = rS i)
    {sp sp' : Space} {s s' : Shape} {e e' : EltTy} {src : Memref sig .tc sp' s' e'} {dst : Memref sig .tc sp s e}
    (hA : dst.view.dmaCredit = rowsCredit (tlen i)) {hsrc hdst} :
    iprop(recs m K ∗ OW c l ∗ WK c (rS i))
      ⊢ iprop(((recvPay m c i ∗ SV c (rS i) ∗ OW c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  iintro ⟨#HR, HO, HW⟩ Hk
  iapply (wait_dma m K c (rS i) (kR i) (csem_R i) l hl hq (hA.trans (dmaAmt_recv i).symm)) $$ [$HR $HO $HW]
  unfold Got
  rw [dmaPay_recv]
  iintro ⟨⟨Hp, Hz⟩, HO⟩
  iapply Hk
  unfold SV
  iframe
/-- for its source to be read, -/
theorem wait_s {α : Type} {Q : α → sProp 𝕄} {k : PUnit → Prog (TpuEff nD τ sig (Elt F) Λ₀ .tc) α} (i : Fin 15)
    {q' : DmaSem sig} (hq : q' = sS i)
    {sp sp' : Space} {s s' : Shape} {e e' : EltTy} {src : Memref sig .tc sp' s' e'} {dst : Memref sig .tc sp s e}
    (hA : dst.view.dmaCredit = rowsCredit (tlen i)) {hsrc hdst} :
    iprop(recs m K ∗ OW c [] ∗ WK c (sS i))
      ⊢ iprop(((SG m c i ∗ OW c []) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  iintro ⟨#HR, HO, HW⟩ Hk
  iapply (wait_dma m K c (sS i) (kS i) (csem_S i) [] (fun _ h => absurd h List.not_mem_nil) hq (hA.trans (dmaAmt_send i).symm)) $$ [$HR $HO $HW]
  unfold Got
  rw [dmaPay_send]
  iintro ⟨⟨Hp, Hz⟩, HO⟩
  iapply Hk
  unfold SG SV
  iframe
/-- for block `j` of the result to be written, -/
theorem wait_o {α : Type} {Q : α → sProp 𝕄} {k : PUnit → Prog (TpuEff nD τ sig (Elt F) Λ₀ .tc) α} (j : Fin 17)
    {q' : DmaSem sig} (hq : q' = oS j)
    {sp sp' : Space} {s s' : Shape} {e e' : EltTy} {src : Memref sig .tc sp' s' e'} {dst : Memref sig .tc sp s e}
    (hA : dst.view.dmaCredit = outCredit (olen j)) {hsrc hdst} :
    iprop(recs m K ∗ OW c [] ∗ WK c (oS j))
      ⊢ iprop(((OG m c j ∗ OW c []) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  iintro ⟨#HR, HO, HW⟩ Hk
  iapply (wait_dma m K c (oS j) (kO j) (csem_O j) [] (fun _ h => absurd h List.not_mem_nil) hq (hA.trans (dmaAmt_out j).symm)) $$ [$HR $HO $HW]
  unfold Got
  rw [dmaPay_out]
  iintro ⟨⟨Hp, Hz⟩, HO⟩
  iapply Hk
  unfold OG SV
  iframe
/-- and for the columns of `w`. -/
theorem wait_w {α : Type} {Q : α → sProp 𝕄} {k : PUnit → Prog (TpuEff nD τ sig (Elt F) Λ₀ .tc) α}
    (l : List (Fin 15)) (hl : ∀ i' ∈ l, slv (.dma wS) < slv (.dma (rS i'))) {q' : DmaSem sig} (hq : q' = wS)
    {sp sp' : Space} {s s' : Shape} {e e' : EltTy} {src : Memref sig .tc sp' s' e'} {dst : Memref sig .tc sp s e}
    (hA : dst.view.dmaCredit = wCredit) {hsrc hdst} :
    iprop(recs m K ∗ OW c l ∗ WK c wS)
      ⊢ iprop(((tAt c (wF m c) ∗ hAt m c (colsW c) ∗ SV c wS ∗ OW c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  iintro ⟨#HR, HO, HW⟩ Hk
  iapply (wait_dma m K c wS 30 csem_W l hl hq (hA.trans dmaAmt_w.symm)) $$ [$HR $HO $HW]
  unfold Got
  rw [dmaPay_w]
  unfold wPay
  iintro ⟨⟨⟨Hp, Hh⟩, Hz⟩, HO⟩
  iapply Hk
  unfold SV
  iframe

end Waits

/-! ## Loads -/

section Loads
variable (c : Dev nD)

/-- A load of `n` rows of slot `s`, which hold rows of device `d`. -/
theorem load_c {α : Type} {Q : α → sProp 𝕄} {n s lo : ℕ} {S : Finset S7x512x4096.Idx} {sh : PosShare TreeShare} (d : Dev nD) (hs : s < 7) (hb : lo + n ≤ 512)
    (hd : flip (slotMask s) c = d) (hS : slotC s lo n ⊆ S)
    {inb : ∀ a, (![s, lo, 0] : Fin 3 → ℕ) a + (⟨3, ![1, n, 4096]⟩ : Shape).size a ≤ S7x512x4096.size a}
    {k : ((⟨3, ![1, n, 4096]⟩ : Shape).Idx → Elt F .fp8e5m2) → Prog (TpuEff nD τ sig (Elt F) Λ₀ .tc) α} {hl} :
    cAt c S sh (landF m c) ⊢ iprop((cAt c S sh (landF m c) -∗ wp frame (wpE (defs₀ (F := F)) 𝒱₀ (c : Thread nD τ) none) Set.univ (k (chunk m d lo n hb)) Q)
          -∗ wp frame (wpE (defs₀ (F := F)) 𝒱₀ (c : Thread nD τ) none) Set.univ
              (.op (.load cM (Rect.unit (s := S7x512x4096) ![s, lo, 0] (⟨3, ![1, n, 4096]⟩ : Shape).size inb).toLoadRect hl) k) Q) := by
  unfold cAt
  have hv : (cM.access (Rect.unit (s := S7x512x4096) ![s, lo, 0] (⟨3, ![1, n, 4096]⟩ : Shape).size inb)).read (Elt F) (landF m c) = chunk m d lo n hb := by
    funext x
    refine (read_c3 (hr := fun _ => rfl) (landF m c) x hs hb).trans ?_
    unfold landF chunk
    rw [← hd]
    rfl
  iintro H Hk
  iapply (wp_load_rect 𝒱₀ (c : Thread nD τ) none Set.univ (m := cM) (r := Rect.unit (s := S7x512x4096) ![s, lo, 0] (⟨3, ![1, n, 4096]⟩ : Shape).size inb)
    (k := k) (S := S) (q := sh) (f := landF m c) (by rw [setOn_c]; exact hS)) $$ H
  rw [hv]
  iexact Hk

/-- A load of `n` of the device's own rows. -/
theorem load_x {α : Type} {Q : α → sProp 𝕄} {n lo : ℕ} {S : Finset S512x4096.Idx} {sh : PosShare TreeShare} (hb : lo + n ≤ 512) (hS : rowsX lo n ⊆ S)
    {inb : ∀ a, (![lo, 0] : Fin 2 → ℕ) a + (⟨2, ![n, 4096]⟩ : Shape).size a ≤ S512x4096.size a}
    {k : ((⟨2, ![n, 4096]⟩ : Shape).Idx → Elt F .fp8e5m2) → Prog (TpuEff nD τ sig (Elt F) Λ₀ .tc) α} {hl} :
    xAt c S sh (X m c) ⊢ iprop((xAt c S sh (X m c) -∗ wp frame (wpE (defs₀ (F := F)) 𝒱₀ (c : Thread nD τ) none) Set.univ (k (xrows m c lo n hb)) Q)
          -∗ wp frame (wpE (defs₀ (F := F)) 𝒱₀ (c : Thread nD τ) none) Set.univ
              (.op (.load xM (Rect.unit (s := S512x4096) ![lo, 0] (⟨2, ![n, 4096]⟩ : Shape).size inb).toLoadRect hl) k) Q) := by
  unfold xAt
  have hv : (xM.access (Rect.unit (s := S512x4096) ![lo, 0] (⟨2, ![n, 4096]⟩ : Shape).size inb)).read (Elt F) (X m c) = xrows m c lo n hb := by
    funext x
    exact read_x (hr := fun _ => rfl) (X m c) x hb
  iintro H Hk
  iapply (wp_load_rect 𝒱₀ (c : Thread nD τ) none Set.univ (m := xM) (r := Rect.unit (s := S512x4096) ![lo, 0] (⟨2, ![n, 4096]⟩ : Shape).size inb)
    (k := k) (S := S) (q := sh) (f := X m c) (by rw [setOn_x]; exact hS)) $$ H
  rw [hv]
  iexact Hk

end Loads

end Cert.KernelProof
-- ==== Proof.Blocks.lean ====
/-
# The offsets, the neighbours and the blocks of the result, as the kernel computes them

The kernel works out its neighbours and its offsets with bit operations on words. Here they are shown to be the entries of the tables,
and the value stored in each block of the result is shown to be that block of `outF`.
-/
module

public import proofs.«01_k».proof.Proof.Steps

@[expose] public section

noncomputable section

namespace Cert.KernelProof

open Cert.Kernel Cert.Kernel.Gen

open Idealize.ShloMosaic
open Idealize.ShloMosaic.TcCoe

variable {F : FTy → Type} [FloatOps F]
variable (m : (ℓ : Loc nD τ sig) → Buf (Elt F) ℓ)

/-! ## Neighbours -/

theorem dev1 (c : Dev nD) : (⟨k0_dev1 c, k0_dev1_lt c⟩ : Dev nD) = flip 1 c := Fin.ext (by revert c; decide +kernel)
theorem dev2 (c : Dev nD) : (⟨k0_dev2 c, k0_dev2_lt c⟩ : Dev nD) = flip 3 c := Fin.ext (by revert c; decide +kernel)
theorem dev3 (c : Dev nD) : (⟨k0_dev3 c, k0_dev3_lt c⟩ : Dev nD) = flip 4 c := Fin.ext (by revert c; decide +kernel)
theorem dev4 (c : Dev nD) : (⟨k0_dev4 c, k0_dev4_lt c⟩ : Dev nD) = flip (mask 0) c := Fin.ext (by revert c; decide +kernel)
theorem dev5 (c : Dev nD) : (⟨k0_dev5 c, k0_dev5_lt c⟩ : Dev nD) = flip (mask 2) c := Fin.ext (by revert c; decide +kernel)
theorem dev6 (c : Dev nD) : (⟨k0_dev6 c, k0_dev6_lt c⟩ : Dev nD) = flip (mask 4) c := Fin.ext (by revert c; decide +kernel)
theorem dev7 (c : Dev nD) : (⟨k0_dev7 c, k0_dev7_lt c⟩ : Dev nD) = flip (mask 1) c := Fin.ext (by revert c; decide +kernel)
theorem dev8 (c : Dev nD) : (⟨k0_dev8 c, k0_dev8_lt c⟩ : Dev nD) = flip (mask 3) c := Fin.ext (by revert c; decide +kernel)
theorem dev9 (c : Dev nD) : (⟨k0_dev9 c, k0_dev9_lt c⟩ : Dev nD) = flip (mask 5) c := Fin.ext (by revert c; decide +kernel)
theorem dev10 (c : Dev nD) : (⟨k0_dev10 c, k0_dev10_lt c⟩ : Dev nD) = flip (mask 6) c := Fin.ext (by revert c; decide +kernel)
theorem dev11 (c : Dev nD) : (⟨k0_dev11 c, k0_dev11_lt c⟩ : Dev nD) = flip (mask 8) c := Fin.ext (by revert c; decide +kernel)
theorem dev12 (c : Dev nD) : (⟨k0_dev12 c, k0_dev12_lt c⟩ : Dev nD) = flip (mask 10) c := Fin.ext (by revert c; decide +kernel)
theorem dev13 (c : Dev nD) : (⟨k0_dev13 c, k0_dev13_lt c⟩ : Dev nD) = flip (mask 7) c := Fin.ext (by revert c; decide +kernel)
theorem dev14 (c : Dev nD) : (⟨k0_dev14 c, k0_dev14_lt c⟩ : Dev nD) = flip (mask 9) c := Fin.ext (by revert c; decide +kernel)
theorem dev15 (c : Dev nD) : (⟨k0_dev15 c, k0_dev15_lt c⟩ : Dev nD) = flip (mask 11) c := Fin.ext (by revert c; decide +kernel)
theorem dev16 (c : Dev nD) : (⟨k0_dev16 c, k0_dev16_lt c⟩ : Dev nD) = flip (mask 12) c := Fin.ext (by revert c; decide +kernel)
theorem dev17 (c : Dev nD) : (⟨k0_dev17 c, k0_dev17_lt c⟩ : Dev nD) = flip (mask 13) c := Fin.ext (by revert c; decide +kernel)
theorem dev18 (c : Dev nD) : (⟨k0_dev18 c, k0_dev18_lt c⟩ : Dev nD) = flip (mask 14) c := Fin.ext (by revert c; decide +kernel)

/-! ## Offsets of the blocks of the result -/

/-- Which block the `r`-th of the twelve accesses at a distance from the own block is of. -/
def blk : Fin 12 → Fin 17 := ![0, 1, 2, 4, 5, 6, 8, 9, 10, 11, 12, 13]

theorem off2 (c : Dev nD) (r : Fin 12) : k0_off2 c (k0_off2_at r).1 (k0_off2_at r).2 = ![olo c (blk r), 0] := by
  revert c r; decide +kernel
theorem off3 (c : Dev nD) (r : Fin 12) : k0_off3 c (k0_off2_at r).1 (k0_off2_at r).2 = ![olo c (blk r), 0] := by
  revert c r; decide +kernel
theorem off4a (c : Dev nD) : k0_off4 c 0#32 = ![olo c 3, 0] := by revert c; decide +kernel
theorem off5a (c : Dev nD) : k0_off5 c 0#32 = ![olo c 3, 0] := by revert c; decide +kernel
theorem off4b (c : Dev nD) : k0_off4 c 256#32 = ![olo c 7, 0] := by revert c; decide +kernel
theorem off5b (c : Dev nD) : k0_off5 c 256#32 = ![olo c 7, 0] := by revert c; decide +kernel
theorem off6a (c : Dev nD) : k0_off6 c 0#32 = ![olo c 14, 0] := by revert c; decide +kernel
theorem off7a (c : Dev nD) : k0_off7 c 0#32 = ![olo c 14, 0] := by revert c; decide +kernel
theorem off6b (c : Dev nD) : k0_off6 c 160#32 = ![olo c 15, 0] := by revert c; decide +kernel
theorem off7b (c : Dev nD) : k0_off7 c 160#32 = ![olo c 15, 0] := by revert c; decide +kernel
theorem off8 (c : Dev nD) : k0_off8 c = ![olo c 16, 0] := by revert c; decide +kernel
theorem off9 (c : Dev nD) : k0_off9 c = ![olo c 16, 0] := by revert c; decide +kernel

/-! ## The blocks of the result -/

theorem flip_inj6 (j : Fin 17) (h : olen j = 256) (c : Dev nD) : (flip (omask j) c).val ≠ (flip 6 c).val := by
  revert j c; decide +kernel
theorem ooff_256 (j : Fin 17) (h : olen j = 256) : ooff j = 0 ∨ ooff j = 256 := by revert j; decide

theorem olo_256 (c : Dev nD) (j : Fin 17) (h : olen j = 256) : olo c j + 256 ≤ 4096 := by rw [← h]; exact olo_le c j
theorem olo_160 (c : Dev nD) (j : Fin 17) (h : olen j = 160) : olo c j + 160 ≤ 4096 := by rw [← h]; exact olo_le c j
theorem olo_192 (c : Dev nD) (j : Fin 17) (h : olen j = 192) : olo c j + 192 ≤ 4096 := by rw [← h]; exact olo_le c j

/-! `outF` at row `k` of the chunk that the row belongs to. -/

theorem outF_lo (c d : Dev nD) (r : Fin 4096) (q : Fin 1024) (k : Fin 256) (hne : d.val ≠ (flip 6 c).val) (hr : r.val = 512 * d.val + k.val) :
    outF m c (ix2 r q) = gemm256 (scF m c) (xrows m d 0 256 (by decide)) (wF m c) (ix2 k q) := by
  obtain ⟨d, hd⟩ := d
  have h1 : d = r.val / 512 := by simp only at hr; omega
  subst h1
  obtain ⟨k, hk⟩ := k
  obtain rfl : k = r.val % 512 := by simp only at hr; omega
  exact (dif_neg hne).trans (dif_pos hk)
theorem outF_hi (c d : Dev nD) (r : Fin 4096) (q : Fin 1024) (k : Fin 256) (hne : d.val ≠ (flip 6 c).val) (hr : r.val = 512 * d.val + 256 + k.val) :
    outF m c (ix2 r q) = gemm256 (scF m c) (xrows m d 256 256 (by decide)) (wF m c) (ix2 k q) := by
  obtain ⟨d, hd⟩ := d
  have h1 : d = r.val / 512 := by simp only at hr; omega
  subst h1
  obtain ⟨k, hk⟩ := k
  obtain rfl : k = r.val % 512 - 256 := by simp only at hr; omega
  exact (dif_neg hne).trans (dif_neg (show ¬ r.val % 512 < 256 by simp only at hr; omega))
theorem outF_a (c : Dev nD) (r : Fin 4096) (q : Fin 1024) (k : Fin 160) (hr : r.val = 512 * (flip 6 c).val + k.val) :
    outF m c (ix2 r q) = gemm160 (scF m c) (xrows m (flip 6 c) 0 160 (by decide)) (wF m c) (ix2 k q) := by
  obtain ⟨k, hk⟩ := k
  obtain rfl : k = r.val % 512 := by simp only at hr; omega
  exact (dif_pos (show r.val / 512 = (flip 6 c).val by omega)).trans (dif_pos hk)
theorem outF_b (c : Dev nD) (r : Fin 4096) (q : Fin 1024) (k : Fin 160) (hr : r.val = 512 * (flip 6 c).val + 160 + k.val) :
    outF m c (ix2 r q) = gemm160 (scF m c) (xrows m (flip 6 c) 160 160 (by decide)) (wF m c) (ix2 k q) := by
  obtain ⟨k, hk⟩ := k
  obtain rfl : k = r.val % 512 - 160 := by simp only at hr; omega
  exact (dif_pos (show r.val / 512 = (flip 6 c).val by omega)).trans ((dif_neg (show ¬ r.val % 512 < 160 by omega)).trans
    (dif_pos (show r.val % 512 < 320 by omega)))
theorem outF_c (c : Dev nD) (r : Fin 4096) (q : Fin 1024) (k : Fin 192) (hr : r.val = 512 * (flip 6 c).val + 320 + k.val) :
    outF m c (ix2 r q) = gemm192 (scF m c) (xrows m (flip 6 c) 320 192 (by decide)) (wF m c) (ix2 k q) := by
  obtain ⟨k, hk⟩ := k
  obtain rfl : k = r.val % 512 - 320 := by simp only at hr; omega
  exact (dif_pos (show r.val / 512 = (flip 6 c).val by omega)).trans ((dif_neg (show ¬ r.val % 512 < 160 by omega)).trans
    (dif_neg (show ¬ r.val % 512 < 320 by omega)))

/-- A block of 256 rows of `outF`. -/
theorem outF_256 (c : Dev nD) (j : Fin 17) (hn : olen j = 256) {d : Dev nD} {lo : ℕ} (hd : flip (omask j) c = d) (hl : ooff j = lo) (hb : lo + 256 ≤ 512)
    (v : (⟨2, ![256, 1024]⟩ : Shape).Idx → Elt F .f32) (hv : v = gemm256 (scF m c) (xrows m d lo 256 hb) (wF m c)) (x : (⟨2, ![256, 1024]⟩ : Shape).Idx) :
    v x = outF m c (ix2 ⟨olo c j + (x 0).val, by have : (x 0).val < 256 := (x 0).isLt; have := olo_256 c j hn; omega⟩ (x 1)) := by
  have hne := flip_inj6 j hn c
  rw [hd] at hne
  have e : olo c j = 512 * d.val + lo := by unfold olo; rw [hd, hl]
  rw [hv]
  refine (congrArg _ (ix2_eta x).symm).trans ?_
  rcases ooff_256 j hn with h0 | h0
  · have hl0 : lo = 0 := by omega
    subst hl0
    exact (outF_lo m c d _ _ (x 0) hne (congrArg (· + (x 0).val) e)).symm
  · have hl0 : lo = 256 := by omega
    subst hl0
    exact (outF_hi m c d _ _ (x 0) hne (congrArg (· + (x 0).val) e)).symm

/-- The two blocks of 160 rows, -/
theorem outF_14 (c : Dev nD) (v : (⟨2, ![160, 1024]⟩ : Shape).Idx → Elt F .f32)
    (hv : v = gemm160 (scF m c) (xrows m (flip 6 c) 0 160 (by decide)) (wF m c)) (x : (⟨2, ![160, 1024]⟩ : Shape).Idx) :
    v x = outF m c (ix2 ⟨olo c 14 + (x 0).val, by have : (x 0).val < 160 := (x 0).isLt; have := olo_160 c 14 rfl; omega⟩ (x 1)) := by
  rw [hv]
  exact (congrArg _ (ix2_eta x).symm).trans (outF_a m c _ _ (x 0) rfl).symm
theorem outF_15 (c : Dev nD) (v : (⟨2, ![160, 1024]⟩ : Shape).Idx → Elt F .f32)
    (hv : v = gemm160 (scF m c) (xrows m (flip 6 c) 160 160 (by decide)) (wF m c)) (x : (⟨2, ![160, 1024]⟩ : Shape).Idx) :
    v x = outF m c (ix2 ⟨olo c 15 + (x 0).val, by have : (x 0).val < 160 := (x 0).isLt; have := olo_160 c 15 rfl; omega⟩ (x 1)) := by
  rw [hv]
  exact (congrArg _ (ix2_eta x).symm).trans (outF_b m c _ _ (x 0) rfl).symm
/-- and the block of 192. -/
theorem outF_16 (c : Dev nD) (v : (⟨2, ![192, 1024]⟩ : Shape).Idx → Elt F .f32)
    (hv : v = gemm192 (scF m c) (xrows m (flip 6 c) 320 192 (by decide)) (wF m c)) (x : (⟨2, ![192, 1024]⟩ : Shape).Idx) :
    v x = outF m c (ix2 ⟨olo c 16 + (x 0).val, by have : (x 0).val < 192 := (x 0).isLt; have := olo_192 c 16 rfl; omega⟩ (x 1)) := by
  rw [hv]
  exact (congrArg _ (ix2_eta x).symm).trans (outF_c m c _ _ (x 0) rfl).symm

/-! ## The stored values -/

/-- The value of a block of 256 rows that are loaded from a slot, -/
theorem pay_c (c d : Dev nD) (lo : ℕ) (hb : lo + 256 ≤ 512) :
    k0_pay7 (scF m c) (chunk m d lo 256 hb) (wF m c) = gemm256 (scF m c) (xrows m d lo 256 hb) (wF m c) := by
  unfold k0_pay7
  simp only []
  rw [shapeCast_self]
  unfold gemm256
  rw [shapeCast_chunk]
/-- that are the device's own, -/
theorem pay_x (c d : Dev nD) (lo : ℕ) (hb : lo + 256 ≤ 512) :
    k0_pay11 (scF m c) (xrows m d lo 256 hb) (wF m c) = gemm256 (scF m c) (xrows m d lo 256 hb) (wF m c) := by
  unfold k0_pay11
  simp only []
  rw [shapeCast_self]
  rfl
/-- of 160 rows -/
theorem pay_160 (c d : Dev nD) (lo : ℕ) (hb : lo + 160 ≤ 512) :
    k0_pay23 (scF m c) (chunk m d lo 160 hb) (wF m c) = gemm160 (scF m c) (xrows m d lo 160 hb) (wF m c) := by
  unfold k0_pay23
  simp only []
  rw [shapeCast_self]
  unfold gemm160
  rw [shapeCast_chunk]
/-- and of 192. -/
theorem pay_192 (c d : Dev nD) (lo : ℕ) (hb : lo + 192 ≤ 512) :
    k0_pay25 (scF m c) (chunk m d lo 192 hb) (wF m c) = gemm192 (scF m c) (xrows m d lo 192 hb) (wF m c) := by
  unfold k0_pay25
  simp only []
  rw [shapeCast_self]
  unfold gemm192
  rw [shapeCast_chunk]

/-- The value of block `j` loaded from a slot, block `j` of `outF`; -/
theorem val_c (c : Dev nD) (j : Fin 17) (hn : olen j = 256) {d : Dev nD} {lo : ℕ} (hd : flip (omask j) c = d) (hl : ooff j = lo) (hb : lo + 256 ≤ 512)
    (x : (⟨2, ![256, 1024]⟩ : Shape).Idx) :
    k0_pay7 (scF m c) (chunk m d lo 256 hb) (wF m c) x
      = outF m c (ix2 ⟨olo c j + (x 0).val, by have : (x 0).val < 256 := (x 0).isLt; have := olo_256 c j hn; omega⟩ (x 1)) :=
  outF_256 m c j hn hd hl hb _ (pay_c m c d lo hb) x
/-- the same of the device's own rows. -/
theorem val_x (c : Dev nD) (j : Fin 17) (hn : olen j = 256) {d : Dev nD} {lo : ℕ} (hd : flip (omask j) c = d) (hl : ooff j = lo) (hb : lo + 256 ≤ 512)
    (x : (⟨2, ![256, 1024]⟩ : Shape).Idx) :
    k0_pay11 (scF m c) (xrows m d lo 256 hb) (wF m c) x
      = outF m c (ix2 ⟨olo c j + (x 0).val, by have : (x 0).val < 256 := (x 0).isLt; have := olo_256 c j hn; omega⟩ (x 1)) :=
  outF_256 m c j hn hd hl hb _ (pay_x m c d lo hb) x

end Cert.KernelProof
-- ==== Proof.Parts.lean ====
/-
# The parts of the body

The kernel's body is a chain of parts. One lemma per part says what the part takes and what it leaves.
-/
module

public import proofs.«01_k».proof.Proof.Blocks

@[expose] public section

set_option maxRecDepth 65536

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 49 → ℕ) (c : Dev nD)

/-! ## What the parts hold between them -/

/-- The share of 256 of its own rows that the kernel reads with. -/
def XR (lo : ℕ) : sProp 𝕄 := xAt c (rowsX lo 256) (fullShare : PosShare TreeShare).right.right.right (X m c)

/-- The columns of `w`, held. -/
abbrev WR : sProp 𝕄 := wAt c (wF m c)

/-- Rows that landed, in two halves. -/
theorem recv_halves (i : Fin 15) (s lo n : ℕ) (hs : dslot i = s) (hl : tlo i = lo) (hn : tlen i = n) :
    recvPay m c i ⊣⊢ iprop(CL m c s lo n ∗ CR m c s lo n) := by
  subst hs hl hn
  unfold recvPay CL CR cAt dstSet
  exact pointsTo_share (PosShare.mem_left_op_right _)

/-- A half of rows, cut in two. -/
theorem left_cut (s lo a b n lo' : ℕ) (hn : a + b = n) (hl : lo + a = lo') : CL m c s lo n ⊣⊢ iprop(CL m c s lo a ∗ CL m c s lo' b) := by
  subst hn hl
  have hS : slotC s lo (a + b) = slotC s lo a ∪ slotC s (lo + a) b := by
    ext i
    simp only [Finset.mem_union, mem_slotC]
    omega
  have hD : Disjoint (slotC s lo a) (slotC s (lo + a) b) := Finset.disjoint_left.mpr fun i h h' => by
    rw [mem_slotC] at h h'
    omega
  unfold CL cAt
  rw [hS]
  exact pointsTo_union hD

/-- A device's own rows in four shares, three for transfers and one to read with: the first 256, -/
theorem own_lo : xAt c (rowsX 0 256) fullShare (X m c) ⊣⊢ iprop(XS m c 0 ∗ XS m c 2 ∗ XS m c 4 ∗ XR m c 0) := by
  unfold XS XR xAt
  refine (pointsTo_share (PosShare.mem_left_op_right _)).trans (sep_congr_right ?_)
  exact (pointsTo_share (PosShare.mem_left_op_right _)).trans (sep_congr_right (pointsTo_share (PosShare.mem_left_op_right _)))
/-- and the last. -/
theorem own_hi : xAt c (rowsX 256 256) fullShare (X m c) ⊣⊢ iprop(XS m c 1 ∗ XS m c 3 ∗ XS m c 5 ∗ XR m c 256) := by
  unfold XS XR xAt
  refine (pointsTo_share (PosShare.mem_left_op_right _)).trans (sep_congr_right ?_)
  exact (pointsTo_share (PosShare.mem_left_op_right _)).trans (sep_congr_right (pointsTo_share (PosShare.mem_left_op_right _)))

/-- A load of the device's columns of `w`. -/
theorem load_w {α : Type} {Q : α → sProp 𝕄} {f : S4096x1024.Idx → Elt F .fp8e5m2} {inb}
    {k : (S4096x1024.Idx → Elt F .fp8e5m2) → Prog (TpuEff nD τ sig (Elt F) Λ₀ .tc) α} {hl} :
    wAt c f ⊢ iprop((wAt c f -∗ wp frame (wpE (defs₀ (F := F)) 𝒱₀ (c : Thread nD τ) none) Set.univ (k f) Q)
          -∗ wp frame (wpE (defs₀ (F := F)) 𝒱₀ (c : Thread nD τ) none) Set.univ
              (.op (.load wM (Rect.unit (s := S4096x1024) ![0, 0] S4096x1024.size inb).toLoadRect hl) k) Q) := by
  unfold wAt
  have hz : (![0, 0] : Fin 2 → ℕ) = fun _ => 0 := by decide
  iintro H Hk
  iapply (wp_load_rect 𝒱₀ (c : Thread nD τ) none Set.univ (m := wM) (r := Rect.unit (s := S4096x1024) ![0, 0] S4096x1024.size inb)
    (k := k) (S := Finset.univ) (q := fullShare) (f := f) (Finset.subset_univ _)) $$ H
  have hv : (wM.access (Rect.unit (s := S4096x1024) ![0, 0] S4096x1024.size inb)).read (Elt F) f = f := Memref.readAt_unit_zero (Elt F) cc0_scratch2 hz _ f
  rw [hv]
  iexact Hk

/-- The device's own rows, staged. -/
def GR : sProp 𝕄 := ((c : Thread nD τ).loc cc0_stg0_0) ↦{fullShare} (X m c : S512x4096.Idx → Elt F .fp8e5m2)

/-- The two scales, staged. -/
def SR : sProp 𝕄 := iprop((((c : Thread nD τ).loc cc0_stg1_0) ↦{fullShare} (m ((c : Thread nD τ).loc main_arg2) : S1.Idx → Elt F .f32))
  ∗ ((c : Thread nD τ).loc cc0_stg2_0) ↦{fullShare} (m ((c : Thread nD τ).loc main_arg3) : S1.Idx → Elt F .f32))

/-- A load of rows that landed. -/
theorem load_r {α : Type} {Q : α → sProp 𝕄} {n s lo : ℕ} (d : Dev nD) (hs : s < 7) (hb : lo + n ≤ 512)
    (hd : flip (slotMask s) c = d)
    {inb : ∀ a, (![s, lo, 0] : Fin 3 → ℕ) a + (⟨3, ![1, n, 4096]⟩ : Shape).size a ≤ S7x512x4096.size a}
    {k : ((⟨3, ![1, n, 4096]⟩ : Shape).Idx → Elt F .fp8e5m2) → Prog (TpuEff nD τ sig (Elt F) Λ₀ .tc) α} {hl} :
    CR m c s lo n ⊢ iprop((CR m c s lo n -∗ wp frame (wpE (defs₀ (F := F)) 𝒱₀ (c : Thread nD τ) none) Set.univ (k (chunk m d lo n hb)) Q)
          -∗ wp frame (wpE (defs₀ (F := F)) 𝒱₀ (c : Thread nD τ) none) Set.univ
              (.op (.load cM (Rect.unit (s := S7x512x4096) ![s, lo, 0] (⟨3, ![1, n, 4096]⟩ : Shape).size inb).toLoadRect hl) k) Q) :=
  load_c m c d hs hb hd (Finset.Subset.refl _)

/-- A load of rows of the staged block. -/
theorem load_g {α : Type} {Q : α → sProp 𝕄} {n lo : ℕ} (hb : lo + n ≤ 512)
    {inb : ∀ a, (![lo, 0] : Fin 2 → ℕ) a + (⟨2, ![n, 4096]⟩ : Shape).size a ≤ S512x4096.size a}
    {k : ((⟨2, ![n, 4096]⟩ : Shape).Idx → Elt F .fp8e5m2) → Prog (TpuEff nD τ sig (Elt F) Λ₀ .tc) α} {hl} :
    GR m c ⊢ iprop((GR m c -∗ wp frame (wpE (defs₀ (F := F)) 𝒱₀ (c : Thread nD τ) none) Set.univ (k (xrows m c lo n hb)) Q)
          -∗ wp frame (wpE (defs₀ (F := F)) 𝒱₀ (c : Thread nD τ) none) Set.univ
              (.op (.load gM (Rect.unit (s := S512x4096) ![lo, 0] (⟨2, ![n, 4096]⟩ : Shape).size inb).toLoadRect hl) k) Q) := by
  unfold GR
  have hv : (gM.access (Rect.unit (s := S512x4096) ![lo, 0] (⟨2, ![n, 4096]⟩ : Shape).size inb)).read (Elt F) (X m c) = xrows m c lo n hb := by
    funext x
    exact read_x (hr := fun _ => rfl) (X m c) x hb
  iintro H Hk
  iapply (wp_load_rect 𝒱₀ (c : Thread nD τ) none Set.univ (m := gM) (r := Rect.unit (s := S512x4096) ![lo, 0] (⟨2, ![n, 4096]⟩ : Shape).size inb)
    (k := k) (S := Finset.univ) (q := fullShare) (f := X m c) (Finset.subset_univ _)) $$ H
  rw [hv]
  iexact Hk

/-- The store of the device's own rows over them. -/
theorem store_x {α : Type} {Q : α → sProp 𝕄} {n lo : ℕ} {f : S512x4096.Idx → Elt F .fp8e5m2} (hb : lo + n ≤ 512)
    {inb : ∀ a, (![lo, 0] : Fin 2 → ℕ) a + (⟨2, ![n, 4096]⟩ : Shape).size a ≤ S512x4096.size a}
    (v : (⟨2, ![n, 4096]⟩ : Shape).Idx → Elt F .fp8e5m2) (hv : v = xrows m c lo n hb)
    {k : PUnit → Prog (TpuEff nD τ sig (Elt F) Λ₀ .tc) α} {hx hm} :
    xAt c (rowsX lo n) fullShare f ⊢ iprop((xAt c (rowsX lo n) fullShare (X m c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store xM (Rect.unit (s := S512x4096) ![lo, 0] (⟨2, ![n, 4096]⟩ : Shape).size inb) v Finset.univ hx hm) k) Q) := by
  unfold xAt
  iintro H Hk
  iapply (wp_store 𝒱₀ (c : Thread nD τ) none Set.univ (m := xM) (r := Rect.unit (s := S512x4096) ![lo, 0] (⟨2, ![n, 4096]⟩ : Shape).size inb)
    (w := v) (Mk := Finset.univ) (S := rowsX lo n) (f := f) (by rw [← setOn_x (inb := inb)]; exact subset_of_eq rfl)) $$ H
  iintro H
  have hw : (((c : Thread nD τ).loc cc0_scratch0) ↦[rowsX lo n]{fullShare}
      ((xM.access (Rect.unit (s := S512x4096) ![lo, 0] (⟨2, ![n, 4096]⟩ : Shape).size inb)).write (Elt F) f v Finset.univ) : sProp 𝕄)
      = (((c : Thread nD τ).loc cc0_scratch0) ↦[rowsX lo n]{fullShare} X m c) := pointsTo_congr fun i hi =>
    write_agrees (xM.access (Rect.unit (s := S512x4096) ![lo, 0] (⟨2, ![n, 4096]⟩ : Shape).size inb)) f (X m c) v
      (hv.trans (funext fun x => (read_x (hr := fun _ => rfl) (X m c) x hb).symm)) i (by rw [setOn_x]; exact hi)
  ihave H' := (Entails.of_eq hw) $$ H
  iapply Hk
  iexact H'

/-- A load of the columns of `w` where they arrive, -/
theorem load_t {α : Type} {Q : α → sProp 𝕄} {f : S4096x1024.Idx → Elt F .fp8e5m2} {inb}
    {k : (S4096x1024.Idx → Elt F .fp8e5m2) → Prog (TpuEff nD τ sig (Elt F) Λ₀ .tc) α} {hl} :
    tAt c f ⊢ iprop((tAt c f -∗ wp frame (wpE (defs₀ (F := F)) 𝒱₀ (c : Thread nD τ) none) Set.univ (k f) Q)
          -∗ wp frame (wpE (defs₀ (F := F)) 𝒱₀ (c : Thread nD τ) none) Set.univ
              (.op (.load tM (Rect.unit (s := S4096x1024) ![0, 0] S4096x1024.size inb).toLoadRect hl) k) Q) := by
  unfold tAt
  have hz : (![0, 0] : Fin 2 → ℕ) = fun _ => 0 := by decide
  iintro H Hk
  iapply (wp_load_rect 𝒱₀ (c : Thread nD τ) none Set.univ (m := tM) (r := Rect.unit (s := S4096x1024) ![0, 0] S4096x1024.size inb)
    (k := k) (S := Finset.univ) (q := fullShare) (f := f) (Finset.subset_univ _)) $$ H
  have hv : (tM.access (Rect.unit (s := S4096x1024) ![0, 0] S4096x1024.size inb)).read (Elt F) f = f := Memref.readAt_unit_zero (Elt F) cc0_scratch3 hz _ f
  rw [hv]
  iexact Hk

/-- and the store of them where they are read. -/
theorem store_w {α : Type} {Q : α → sProp 𝕄} {f : S4096x1024.Idx → Elt F .fp8e5m2} {inb}
    (v : S4096x1024.Idx → Elt F .fp8e5m2) (hv : v = wF m c) {k : PUnit → Prog (TpuEff nD τ sig (Elt F) Λ₀ .tc) α} {hx hm} :
    wAt c f ⊢ iprop((WR m c -∗ wp frame (wpE (defs₀ (F := F)) 𝒱₀ (c : Thread nD τ) none) Set.univ (k ⟨⟩) Q)
          -∗ wp frame (wpE (defs₀ (F := F)) 𝒱₀ (c : Thread nD τ) none) Set.univ
              (.op (.store wM (Rect.unit (s := S4096x1024) ![0, 0] S4096x1024.size inb) v Finset.univ hx hm) k) Q) := by
  subst hv
  unfold WR wAt
  have hz : (![0, 0] : Fin 2 → ℕ) = fun _ => 0 := by decide
  iintro H Hk
  iapply (wp_store 𝒱₀ (c : Thread nD τ) none Set.univ (m := wM) (r := Rect.unit (s := S4096x1024) ![0, 0] S4096x1024.size inb)
    (w := wF m c) (Mk := Finset.univ) (S := Finset.univ) (f := f) (Finset.subset_univ _)) $$ H
  have hw : (wM.access (Rect.unit (s := S4096x1024) ![0, 0] S4096x1024.size inb)).write (Elt F) f (wF m c) Finset.univ = wF m c :=
    Memref.write_access_unit_zero_univ (Elt F) cc0_scratch2 hz _ f (wF m c)
  rw [hw]
  iexact Hk

/-- A load of the first scale, -/
theorem load_a {α : Type} {Q : α → sProp 𝕄} {f : S1.Idx → Elt F .f32} {inb}
    {k : (S1.Idx → Elt F .f32) → Prog (TpuEff nD τ sig (Elt F) Λ₀ .tc) α} {hl} :
    (((c : Thread nD τ).loc cc0_stg1_0) ↦{fullShare} f)
      ⊢ iprop(((((c : Thread nD τ).loc cc0_stg1_0) ↦{fullShare} f) -∗ wp frame (wpE (defs₀ (F := F)) 𝒱₀ (c : Thread nD τ) none) Set.univ (k f) Q)
          -∗ wp frame (wpE (defs₀ (F := F)) 𝒱₀ (c : Thread nD τ) none) Set.univ
              (.op (.load aM (Rect.unit (s := S1) ![0] S1.size inb).toLoadRect hl) k) Q) := by
  have hz : (![0] : Fin 1 → ℕ) = fun _ => 0 := by decide
  iintro H Hk
  iapply (wp_load_rect 𝒱₀ (c : Thread nD τ) none Set.univ (m := aM) (r := Rect.unit (s := S1) ![0] S1.size inb)
    (k := k) (S := Finset.univ) (q := fullShare) (f := f) (Finset.subset_univ _)) $$ H
  have hv : (aM.access (Rect.unit (s := S1) ![0] S1.size inb)).read (Elt F) f = f := Memref.readAt_unit_zero (Elt F) cc0_stg1_0 hz _ f
  rw [hv]
  iexact Hk

/-- of the second one, -/
theorem load_b {α : Type} {Q : α → sProp 𝕄} {f : S1.Idx → Elt F .f32} {inb}
    {k : (S1.Idx → Elt F .f32) → Prog (TpuEff nD τ sig (Elt F) Λ₀ .tc) α} {hl} :
    (((c : Thread nD τ).loc cc0_stg2_0) ↦{fullShare} f)
      ⊢ iprop(((((c : Thread nD τ).loc cc0_stg2_0) ↦{fullShare} f) -∗ wp frame (wpE (defs₀ (F := F)) 𝒱₀ (c : Thread nD τ) none) Set.univ (k f) Q)
          -∗ wp frame (wpE (defs₀ (F := F)) 𝒱₀ (c : Thread nD τ) none) Set.univ
              (.op (.load bM (Rect.unit (s := S1) ![0] S1.size inb).toLoadRect hl) k) Q) := by
  have hz : (![0] : Fin 1 → ℕ) = fun _ => 0 := by decide
  iintro H Hk
  iapply (wp_load_rect 𝒱₀ (c : Thread nD τ) none Set.univ (m := bM) (r := Rect.unit (s := S1) ![0] S1.size inb)
    (k := k) (S := Finset.univ) (q := fullShare) (f := f) (Finset.subset_univ _)) $$ H
  have hv : (bM.access (Rect.unit (s := S1) ![0] S1.size inb)).read (Elt F) f = f := Memref.readAt_unit_zero (Elt F) cc0_stg2_0 hz _ f
  rw [hv]
  iexact Hk

/-- and where in them the scales are. -/
theorem first_eq {h} : (Shape.Idx.first h : S1.Idx) = ix1 0 := by
  funext a
  obtain rfl : a = 0 := Subsingleton.elim _ _
  exact Subsingleton.elim (α := Fin 1) _ _

/-! ## The parts -/

/-- Part 2: three transfers of the first half of its own rows start. -/
theorem part2 {Q} (v3 v4 v5 : BitVec 32) (l : List (Fin 15)) :
    iprop(recs m K ∗ OW c (0 :: 2 :: 4 :: l) ∗ ST c 0 ∗ ST c 2 ∗ ST c 4 ∗ xAt c (rowsX 0 256) fullShare (X m c) ∗ GR m c)
      ⊢ iprop(((WK c (sS 0) ∗ WK c (sS 2) ∗ WK c (sS 4) ∗ OW c l ∗ XR m c 0 ∗ GR m c) -∗
            Q (k0_pay3 (xrows m c 256 256 (by decide))))
          -∗ wp frame (wpE (defs₀ (F := F)) 𝒱₀ (c : Thread nD τ) none) Set.univ
              (k0_part2 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v3 v4 v5) Q) := by
  rw [k0_part2_eq_skeleton]
  unfold k0_part2_skel
  simp only [Prog.lift, Prog.bind_op, Prog.bind_ret, Prog.pure_eq_ret]
  iintro ⟨#HR, HO, HS0, HS2, HS4, Hx, Hg⟩ Hk
  ihave Hx' := (own_lo m c).1 $$ Hx
  icases Hx' with ⟨Hx0, Hx2, Hx4, Hxr⟩
  iapply (send_x m K c 0 (by decide) (2 :: 4 :: l) rfl rfl rfl (dev4 c) rfl rfl) $$ [$HR $HO $HS0 $Hx0]
  iintro ⟨HW0, HO⟩
  iapply (send_x m K c 2 (by decide) (4 :: l) rfl rfl rfl (dev5 c) rfl rfl) $$ [$HR $HO $HS2 $Hx2]
  iintro ⟨HW2, HO⟩
  iapply (send_x m K c 4 (by decide) l rfl rfl rfl (dev6 c) rfl rfl) $$ [$HR $HO $HS4 $Hx4]
  iintro ⟨HW4, HO⟩
  iapply (load_g m c (by decide)) $$ Hg
  iintro Hg
  rw [wp_ret]; imodintro; iapply Hk; iframe

/-- Part 3: the last half of its own rows is copied and two transfers of it start. -/
theorem part3 {Q} (v3 v4 v5 : BitVec 32) (l : List (Fin 15)) :
    iprop(recs m K ∗ OW c (1 :: 3 :: l) ∗ ST c 1 ∗ ST c 3 ∗ xAt c (rowsX 256 256) fullShare (X m c))
      ⊢ iprop(((WK c (sS 1) ∗ WK c (sS 3) ∗ OW c l ∗ XS m c 5 ∗ XR m c 256) -∗ Q ⟨⟩)
          -∗ wp frame (wpE (defs₀ (F := F)) 𝒱₀ (c : Thread nD τ) none) Set.univ
              (k0_part3 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v3 v4 v5 (k0_pay3 (xrows m c 256 256 (by decide)))) Q) := by
  rw [k0_part3_eq_skeleton]
  unfold k0_part3_skel
  simp only [Prog.lift, Prog.bind_op, Prog.bind_ret, Prog.pure_eq_ret]
  iintro ⟨#HR, HO, HS1, HS3, Hx⟩ Hk
  iapply (load_x m c (by decide) (Finset.Subset.refl _)) $$ Hx
  iintro Hx
  iapply (store_x m c (by decide) _ (by unfold k0_pay4 k0_pay3; simp only []; rw [shapeCast_self, shapeCast_self])) $$ Hx
  iintro Hx
  ihave Hx' := (own_hi m c).1 $$ Hx
  icases Hx' with ⟨Hx1, Hx3, Hx5, Hxr⟩
  iapply (send_x m K c 1 (by decide) (3 :: l) rfl rfl rfl (dev7 c) rfl rfl) $$ [$HR $HO $HS1 $Hx1]
  iintro ⟨HW1, HO⟩
  iapply (send_x m K c 3 (by decide) l rfl rfl rfl (dev8 c) rfl rfl) $$ [$HR $HO $HS3 $Hx3]
  iintro ⟨HW3, HO⟩
  rw [wp_ret]; imodintro; iapply Hk; iframe

/-- Part 4: the columns of `w` arrive and are copied, the scales are read, the first rows of a neighbour arrive and are sent on. -/
theorem part4 {Q} (v3 v4 : BitVec 32) :
    iprop(recs m K ∗ OW c [5, 6, 8, 10, 7, 9, 11, 12, 13, 14] ∗ ST c 5 ∗ ST c 6 ∗ XS m c 5 ∗ WK c wS ∗ WK c (rS 0) ∗ (∃ f, wAt c f) ∗ SR m c)
      ⊢ iprop(((WK c (sS 5) ∗ WK c (sS 6) ∗ OW c [8, 10, 7, 9, 11, 12, 13, 14] ∗ tAt c (wF m c) ∗ hAt m c (colsW c) ∗ SV c wS ∗ SV c (rS 0)
              ∗ CR m c 0 0 256 ∗ WR m c ∗ SR m c) -∗ Q (scF m c))
          -∗ wp frame (wpE (defs₀ (F := F)) 𝒱₀ (c : Thread nD τ) none) Set.univ
              (k0_part4 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v3 v4) Q) := by
  rw [k0_part4_eq_skeleton]
  unfold k0_part4_skel
  simp only [smemLoad, smemLoadElt, Prog.lift, Prog.bind_op, Prog.bind_ret, Prog.pure_eq_ret]
  iintro ⟨#HR, HO, HS5, HS6, Hx5, HWw, HWr, ⟨%fw, Hw⟩, Hs⟩ Hk
  iapply (send_x m K c 5 (by decide) _ rfl rfl rfl (dev9 c) rfl rfl) $$ [$HR $HO $HS5 $Hx5]
  iintro ⟨HW5, HO⟩
  iapply (wait_w m K c [6, 8, 10, 7, 9, 11, 12, 13, 14] (by decide) rfl rfl) $$ [$HR $HO $HWw]
  iintro ⟨Ht, Hh, Hzw, HO⟩
  iapply (load_t c) $$ Ht
  iintro Ht
  iapply (load_w c) $$ Hw
  iintro Hw
  iapply (store_w m c _ (by unfold k0_pay5; rw [shapeCast_self])) $$ Hw
  iintro Hw
  unfold SR
  icases Hs with ⟨Ha, Hb⟩
  iapply (load_a c) $$ Ha
  iintro Ha
  iapply (load_b c) $$ Hb
  iintro Hb
  iapply (wait_r m K c 0 [6, 8, 10, 7, 9, 11, 12, 13, 14] (by decide) rfl rfl) $$ [$HR $HO $HWr]
  iintro ⟨Hp, Hzr, HO⟩
  ihave Hp' := (recv_halves m c 0 0 0 256 rfl rfl rfl).1 $$ Hp
  icases Hp' with ⟨Hl, Hr⟩
  iapply (send_c m K c 6 (by decide) _ rfl rfl rfl rfl (dev10 c) rfl rfl) $$ [$HR $HO $HS6 $Hl]
  iintro ⟨HW6, HO⟩
  have hsc : k0_pay6 (F := F) ((m ((c : Thread nD τ).loc main_arg2) : S1.Idx → Elt F .f32) (ix1 0))
      ((m ((c : Thread nD τ).loc main_arg3) : S1.Idx → Elt F .f32) (ix1 0)) = scF m c := rfl
  rw [first_eq, wp_ret, hsc]; imodintro; iapply Hk; iframe

/-- Part 5: the first rows of the two other neighbours arrive, and those of the first of them are sent on. -/
theorem part5 {Q} (v3 v4 v5 : BitVec 32) :
    iprop(recs m K ∗ OW c [8, 10, 7, 9, 11, 12, 13, 14] ∗ ST c 8 ∗ WK c (rS 2) ∗ WK c (rS 4))
      ⊢ iprop((∀ v v', (WK c (sS 8) ∗ OW c [10, 7, 9, 11, 12, 13, 14] ∗ SV c (rS 2) ∗ SV c (rS 4) ∗ CR m c 1 0 256 ∗ CL m c 2 0 256 ∗ CR m c 2 0 256)
              -∗ Q ⟨v, v'⟩)
          -∗ wp frame (wpE (defs₀ (F := F)) 𝒱₀ (c : Thread nD τ) none) Set.univ
              (k0_part5 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v3 v4 v5) Q) := by
  rw [k0_part5_eq_skeleton]
  unfold k0_part5_skel
  simp only [Prog.lift, Prog.bind_op, Prog.bind_ret, Prog.pure_eq_ret]
  iintro ⟨#HR, HO, HS8, HW2, HW4⟩ Hk
  iapply (wait_r m K c 2 _ (by decide) rfl rfl) $$ [$HR $HO $HW2]
  iintro ⟨Hp, Hz2, HO⟩
  ihave Hp' := (recv_halves m c 2 1 0 256 rfl rfl rfl).1 $$ Hp
  icases Hp' with ⟨Hl, Hr⟩
  iapply (send_c m K c 8 (by decide) _ rfl rfl rfl rfl (dev11 c) rfl rfl) $$ [$HR $HO $HS8 $Hl]
  iintro ⟨HW8, HO⟩
  iapply (wait_r m K c 4 [10, 7, 9, 11, 12, 13, 14] (by decide) rfl rfl) $$ [$HR $HO $HW4]
  iintro ⟨Hp, Hz4, HO⟩
  ihave Hp' := (recv_halves m c 4 2 0 256 rfl rfl rfl).1 $$ Hp
  icases Hp' with ⟨Hl2, Hr2⟩
  rw [wp_ret]; imodintro; iapply Hk
  iframe

/-- Part 6: the first rows of the third neighbour are sent on, and the block of the first one's is computed. -/
theorem part6 {Q} (v2 v133 c0 : BitVec 32) (l : List (Fin 15)) :
    iprop(recs m K ∗ OW c (10 :: l) ∗ ST c 10 ∗ CL m c 2 0 256 ∗ CR m c 0 0 256 ∗ CR m c 1 0 256 ∗ WR m c ∗ OT c 0)
      ⊢ iprop((∀ v164, (WK c (sS 10) ∗ OW c l ∗ CR m c 0 0 256 ∗ CR m c 1 0 256 ∗ WR m c ∗ WK c (oS 0)) -∗
            Q ⟨k0_pay8 (chunk m (flip 3 c) 0 256 (by decide)), v164, wF m c, constant S256x1024 .f32 0x00000000#32⟩)
          -∗ wp frame (wpE (defs₀ (F := F)) 𝒱₀ (c : Thread nD τ) none) Set.univ
              (k0_part6 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v2 (scF m c) v133 c0) Q) := by
  rw [k0_part6_eq_skeleton]
  unfold k0_part6_skel
  simp only [Prog.lift, Prog.bind_op, Prog.bind_ret, Prog.pure_eq_ret]
  iintro ⟨#HR, HO, HS, Hc2, Hc0, Hc1, Hw, HT⟩ Hk
  iapply (send_c m K c 10 (by decide) l rfl rfl rfl rfl (dev12 c) rfl rfl) $$ [$HR $HO $HS $Hc2]
  iintro ⟨HWs, HO⟩
  iapply (load_r m c (flip 1 c) (by decide) (by decide) rfl) $$ Hc0
  iintro Hc0
  iapply (load_w c) $$ Hw
  iintro Hw
  iapply (load_o c 0 rfl (off2 c 0)) $$ HT
  iintro %v HT
  iapply (store_o m c 0 rfl (off2 c 0) (olo_256 c 0 rfl) _ (val_c m c 0 rfl rfl rfl (by decide))) $$ HT
  iintro HT
  iapply (copy_o m K c 0 rfl (off3 c 0) rfl) $$ [$HR $HT]
  iintro HWo
  iapply (load_r m c (flip 3 c) (by decide) (by decide) rfl) $$ Hc1
  iintro Hc1
  iapply (load_w c) $$ Hw
  iintro Hw
  rw [wp_ret]; imodintro; iapply Hk; iframe

/-- Part 7: the blocks of the first rows of the two other neighbours. -/
theorem part7 {Q} (v2 v164 : BitVec 32) :
    iprop(recs m K ∗ CR m c 2 0 256 ∗ WR m c ∗ OT c 1 ∗ OT c 2)
      ⊢ iprop(((CR m c 2 0 256 ∗ WR m c ∗ WK c (oS 1) ∗ WK c (oS 2)) -∗ Q ⟨⟩)
          -∗ wp frame (wpE (defs₀ (F := F)) 𝒱₀ (c : Thread nD τ) none) Set.univ
              (k0_part7 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v2 (scF m c)
                (k0_pay8 (chunk m (flip 3 c) 0 256 (by decide))) v164 (wF m c) (constant S256x1024 .f32 0x00000000#32)) Q) := by
  rw [k0_part7_eq_skeleton]
  unfold k0_part7_skel
  simp only [Prog.lift, Prog.bind_op, Prog.bind_ret, Prog.pure_eq_ret]
  iintro ⟨#HR, Hc2, Hw, HT1, HT2⟩ Hk
  iapply (load_o c 1 rfl (off2 c 1)) $$ HT1
  iintro %v HT1
  iapply (store_o m c 1 rfl (off2 c 1) (olo_256 c 1 rfl) _ (val_c m c 1 rfl rfl rfl (by decide))) $$ HT1
  iintro HT1
  iapply (copy_o m K c 1 rfl (off3 c 1) rfl) $$ [$HR $HT1]
  iintro HW1
  iapply (load_r m c (flip 4 c) (by decide) (by decide) rfl) $$ Hc2
  iintro Hc2
  iapply (load_w c) $$ Hw
  iintro Hw
  iapply (load_o c 2 rfl (off2 c 2)) $$ HT2
  iintro %v' HT2
  iapply (store_o m c 2 rfl (off2 c 2) (olo_256 c 2 rfl) _ (val_c m c 2 rfl rfl rfl (by decide))) $$ HT2
  iintro HT2
  iapply (copy_o m K c 2 rfl (off3 c 2) rfl) $$ [$HR $HT2]
  iintro HW2
  rw [wp_ret]; imodintro; iapply Hk; iframe

/-- Part 8: the block of its own first rows; the last rows of the first neighbour arrive. -/
theorem part8 {Q} (v2 v3 v4 : BitVec 32) :
    iprop(recs m K ∗ OW c [7, 9, 11, 12, 13, 14] ∗ WK c (rS 1) ∗ XR m c 0 ∗ WR m c ∗ OT c 3)
      ⊢ iprop(((OW c [7, 9, 11, 12, 13, 14] ∗ SV c (rS 1) ∗ CL m c 0 256 256 ∗ CR m c 0 256 256 ∗ XR m c 0 ∗ WR m c ∗ WK c (oS 3)) -∗ Q ⟨⟩)
          -∗ wp frame (wpE (defs₀ (F := F)) 𝒱₀ (c : Thread nD τ) none) Set.univ
              (k0_part8 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v2 v3 v4 (scF m c)) Q) := by
  rw [k0_part8_eq_skeleton]
  unfold k0_part8_skel
  simp only [Prog.lift, Prog.bind_op, Prog.bind_ret, Prog.pure_eq_ret]
  iintro ⟨#HR, HO, HWr, Hx, Hw, HT⟩ Hk
  unfold XR
  iapply (load_x m c (by decide) (Finset.Subset.refl _)) $$ Hx
  iintro Hx
  iapply (load_w c) $$ Hw
  iintro Hw
  iapply (load_o c 3 rfl (off4a c)) $$ HT
  iintro %v HT
  iapply (store_o m c 3 rfl (off4a c) (olo_256 c 3 rfl) _ (val_x m c 3 rfl (flip_zero c) rfl (by decide))) $$ HT
  iintro HT
  iapply (copy_o m K c 3 rfl (off5a c) rfl) $$ [$HR $HT]
  iintro HWo
  iapply (wait_r m K c 1 _ (by decide) rfl rfl) $$ [$HR $HO $HWr]
  iintro ⟨Hp, Hz, HO⟩
  ihave Hp' := (recv_halves m c 1 0 256 256 rfl rfl rfl).1 $$ Hp
  icases Hp' with ⟨Hl, Hr⟩
  rw [wp_ret]; imodintro; iapply Hk; iframe

/-- Part 9: they are sent on, those of the second neighbour arrive and are sent on. -/
theorem part9 {Q} (v4 v5 : BitVec 32) :
    iprop(recs m K ∗ OW c [7, 9, 11, 12, 13, 14] ∗ ST c 7 ∗ ST c 9 ∗ CL m c 0 256 256 ∗ WK c (rS 3))
      ⊢ iprop(((WK c (sS 7) ∗ WK c (sS 9) ∗ OW c [11, 12, 13, 14] ∗ SV c (rS 3) ∗ CR m c 1 256 256) -∗ Q ⟨⟩)
          -∗ wp frame (wpE (defs₀ (F := F)) 𝒱₀ (c : Thread nD τ) none) Set.univ
              (k0_part9 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v4 v5) Q) := by
  rw [k0_part9_eq_skeleton]
  unfold k0_part9_skel
  simp only [Prog.lift, Prog.bind_op, Prog.bind_ret, Prog.pure_eq_ret]
  iintro ⟨#HR, HO, HS7, HS9, Hl, HWr⟩ Hk
  iapply (send_c m K c 7 (by decide) _ rfl rfl rfl rfl (dev13 c) rfl rfl) $$ [$HR $HO $HS7 $Hl]
  iintro ⟨HW7, HO⟩
  iapply (wait_r m K c 3 [9, 11, 12, 13, 14] (by decide) rfl rfl) $$ [$HR $HO $HWr]
  iintro ⟨Hp, Hz, HO⟩
  ihave Hp' := (recv_halves m c 3 1 256 256 rfl rfl rfl).1 $$ Hp
  icases Hp' with ⟨Hl, Hr⟩
  iapply (send_c m K c 9 (by decide) _ rfl rfl rfl rfl (dev14 c) rfl rfl) $$ [$HR $HO $HS9 $Hl]
  iintro ⟨HW9, HO⟩
  rw [wp_ret]; imodintro; iapply Hk; iframe

/-- Part 10: the last rows of the third neighbour arrive and are sent on; the block of the first one's last rows. -/
theorem part10 {Q} (v2 v3 : BitVec 32) :
    iprop(recs m K ∗ OW c [11, 12, 13, 14] ∗ ST c 11 ∗ WK c (rS 5) ∗ CR m c 0 256 256 ∗ WR m c ∗ OT c 4)
      ⊢ iprop(((WK c (sS 11) ∗ OW c [12, 13, 14] ∗ SV c (rS 5) ∗ CR m c 2 256 256 ∗ CR m c 0 256 256 ∗ WR m c ∗ WK c (oS 4)) -∗ Q ⟨⟩)
          -∗ wp frame (wpE (defs₀ (F := F)) 𝒱₀ (c : Thread nD τ) none) Set.univ
              (k0_part10 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v2 v3 (scF m c)) Q) := by
  rw [k0_part10_eq_skeleton]
  unfold k0_part10_skel
  simp only [Prog.lift, Prog.bind_op, Prog.bind_ret, Prog.pure_eq_ret]
  iintro ⟨#HR, HO, HS, HWr, Hc0, Hw, HT⟩ Hk
  iapply (wait_r m K c 5 [11, 12, 13, 14] (by decide) rfl rfl) $$ [$HR $HO $HWr]
  iintro ⟨Hp, Hz, HO⟩
  ihave Hp' := (recv_halves m c 5 2 256 256 rfl rfl rfl).1 $$ Hp
  icases Hp' with ⟨Hl, Hr⟩
  iapply (send_c m K c 11 (by decide) _ rfl rfl rfl rfl (dev15 c) rfl rfl) $$ [$HR $HO $HS $Hl]
  iintro ⟨HWs, HO⟩
  iapply (load_r m c (flip 1 c) (by decide) (by decide) rfl) $$ Hc0
  iintro Hc0
  iapply (load_w c) $$ Hw
  iintro Hw
  iapply (load_o c 4 rfl (off2 c 3)) $$ HT
  iintro %v HT
  iapply (store_o m c 4 rfl (off2 c 3) (olo_256 c 4 rfl) _ (val_c m c 4 rfl rfl rfl (by decide))) $$ HT
  iintro HT
  iapply (copy_o m K c 4 rfl (off3 c 3) rfl) $$ [$HR $HT]
  iintro HWo
  rw [wp_ret]; imodintro; iapply Hk; iframe

/-- Part 11: the block of the second neighbour's last rows, and the product for the third one's. -/
theorem part11 {Q} (v2 : BitVec 32) :
    iprop(recs m K ∗ CR m c 1 256 256 ∗ CR m c 2 256 256 ∗ WR m c ∗ OT c 5 ∗ OT c 6)
      ⊢ iprop(((CR m c 1 256 256 ∗ CR m c 2 256 256 ∗ WR m c ∗ WK c (oS 5) ∗ OT c 6)
              -∗ Q (k0_pay14 (scF m c) (chunk m (flip 4 c) 256 256 (by decide)) (wF m c)))
          -∗ wp frame (wpE (defs₀ (F := F)) 𝒱₀ (c : Thread nD τ) none) Set.univ
              (k0_part11 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v2 (scF m c)) Q) := by
  rw [k0_part11_eq_skeleton]
  unfold k0_part11_skel
  simp only [Prog.lift, Prog.bind_op, Prog.bind_ret, Prog.pure_eq_ret]
  iintro ⟨#HR, Hc1, Hc2, Hw, HT5, HT6⟩ Hk
  iapply (load_r m c (flip 3 c) (by decide) (by decide) rfl) $$ Hc1
  iintro Hc1
  iapply (load_w c) $$ Hw
  iintro Hw
  iapply (load_o c 5 rfl (off2 c 4)) $$ HT5
  iintro %v HT5
  iapply (store_o m c 5 rfl (off2 c 4) (olo_256 c 5 rfl) _ (val_c m c 5 rfl rfl rfl (by decide))) $$ HT5
  iintro HT5
  iapply (copy_o m K c 5 rfl (off3 c 4) rfl) $$ [$HR $HT5]
  iintro HWo
  iapply (load_r m c (flip 4 c) (by decide) (by decide) rfl) $$ Hc2
  iintro Hc2
  iapply (load_w c) $$ Hw
  iintro Hw
  iapply (load_o c 6 rfl (off2 c 5)) $$ HT6
  iintro %v' HT6
  rw [wp_ret]; imodintro; iapply Hk; iframe

/-- Part 12: that block is stored; the block of its own last rows. -/
theorem part12 {Q} (v2 v3 : BitVec 32) :
    iprop(recs m K ∗ XR m c 256 ∗ WR m c ∗ OT c 6 ∗ OT c 7)
      ⊢ iprop((∀ a b d e, (XR m c 256 ∗ WR m c ∗ WK c (oS 6) ∗ WK c (oS 7)) -∗ Q ⟨a, b, d, e⟩)
          -∗ wp frame (wpE (defs₀ (F := F)) 𝒱₀ (c : Thread nD τ) none) Set.univ
              (k0_part12 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v2 v3 (scF m c) (k0_pay14 (scF m c) (chunk m (flip 4 c) 256 256 (by decide)) (wF m c))) Q) := by
  rw [k0_part12_eq_skeleton]
  unfold k0_part12_skel
  simp only [Prog.lift, Prog.bind_op, Prog.bind_ret, Prog.pure_eq_ret]
  iintro ⟨#HR, Hx, Hw, HT6, HT7⟩ Hk
  iapply (store_o m c 6 rfl (off2 c 5) (olo_256 c 6 rfl) _ (val_c m c 6 rfl rfl rfl (by decide))) $$ HT6
  iintro HT6
  iapply (copy_o m K c 6 rfl (off3 c 5) rfl) $$ [$HR $HT6]
  iintro HW6
  unfold XR
  iapply (load_x m c (by decide) (Finset.Subset.refl _)) $$ Hx
  iintro Hx
  iapply (load_w c) $$ Hw
  iintro Hw
  iapply (load_o c 7 rfl (off4b c)) $$ HT7
  iintro %v HT7
  iapply (store_o m c 7 rfl (off4b c) (olo_256 c 7 rfl) _ (val_x m c 7 rfl (flip_zero c) rfl (by decide))) $$ HT7
  iintro HT7
  iapply (copy_o m K c 7 rfl (off5b c) rfl) $$ [$HR $HT7]
  iintro HW7
  rw [wp_ret]; imodintro; iapply Hk; iframe

/-- Part 13: the first rows of device `c xor 5` arrive, the first 160 of them are sent on, and their block is computed. -/
theorem part13 {Q} (v4 v344 : BitVec 32) :
    iprop(recs m K ∗ OW c [12, 13, 14] ∗ ST c 12 ∗ WK c (rS 10) ∗ WR m c ∗ OT c 8)
      ⊢ iprop(((WK c (sS 12) ∗ OW c [13, 14] ∗ SV c (rS 10) ∗ CL m c 5 160 96 ∗ CR m c 5 0 256 ∗ WR m c ∗ OV m c 8) -∗ Q ⟨⟩)
          -∗ wp frame (wpE (defs₀ (F := F)) 𝒱₀ (c : Thread nD τ) none) Set.univ
              (k0_part13 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v4 (scF m c) v344) Q) := by
  rw [k0_part13_eq_skeleton]
  unfold k0_part13_skel
  simp only [Prog.lift, Prog.bind_op, Prog.bind_ret, Prog.pure_eq_ret]
  iintro ⟨#HR, HO, HS, HWr, Hw, HT⟩ Hk
  iapply (wait_r m K c 10 [12, 13, 14] (by decide) rfl rfl) $$ [$HR $HO $HWr]
  iintro ⟨Hp, Hz, HO⟩
  ihave Hp' := (recv_halves m c 10 5 0 256 rfl rfl rfl).1 $$ Hp
  icases Hp' with ⟨Hl, Hr⟩
  ihave Hl' := (left_cut m c 5 0 160 96 256 160 rfl rfl).1 $$ Hl
  icases Hl' with ⟨Hl, Hl2⟩
  iapply (send_c m K c 12 (by decide) _ rfl rfl rfl rfl (dev16 c) rfl rfl) $$ [$HR $HO $HS $Hl]
  iintro ⟨HWs, HO⟩
  iapply (load_r m c (flip 5 c) (by decide) (by decide) rfl) $$ Hr
  iintro Hr
  iapply (load_w c) $$ Hw
  iintro Hw
  iapply (load_o c 8 rfl (off2 c 6)) $$ HT
  iintro %v HT
  iapply (store_o m c 8 rfl (off2 c 6) (olo_256 c 8 rfl) _ (val_c m c 8 rfl rfl rfl (by decide))) $$ HT
  iintro HT
  rw [wp_ret]; imodintro; iapply Hk; iframe

/-- Part 14: that block is copied out; the first rows of device `c xor 2` arrive and their block is computed. -/
theorem part14 {Q} (v4 v342 : BitVec 32) :
    iprop(recs m K ∗ OW c [13, 14] ∗ OV m c 8 ∗ WK c (rS 6) ∗ WR m c ∗ OT c 9)
      ⊢ iprop((∀ a b, (OW c [13, 14] ∗ WK c (oS 8) ∗ SV c (rS 6) ∗ CL m c 3 0 256 ∗ CR m c 3 0 256 ∗ WR m c ∗ WK c (oS 9)) -∗ Q ⟨a, b⟩)
          -∗ wp frame (wpE (defs₀ (F := F)) 𝒱₀ (c : Thread nD τ) none) Set.univ
              (k0_part14 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v4 (scF m c) v342) Q) := by
  rw [k0_part14_eq_skeleton]
  unfold k0_part14_skel
  simp only [Prog.lift, Prog.bind_op, Prog.bind_ret, Prog.pure_eq_ret]
  iintro ⟨#HR, HO, HT8, HWr, Hw, HT⟩ Hk
  iapply (copy_o m K c 8 rfl (off3 c 6) rfl) $$ [$HR $HT8]
  iintro HW8
  iapply (wait_r m K c 6 [13, 14] (by decide) rfl rfl) $$ [$HR $HO $HWr]
  iintro ⟨Hp, Hz, HO⟩
  ihave Hp' := (recv_halves m c 6 3 0 256 rfl rfl rfl).1 $$ Hp
  icases Hp' with ⟨Hl, Hr⟩
  iapply (load_r m c (flip 2 c) (by decide) (by decide) rfl) $$ Hr
  iintro Hr
  iapply (load_w c) $$ Hw
  iintro Hw
  iapply (load_o c 9 rfl (off2 c 7)) $$ HT
  iintro %v HT
  iapply (store_o m c 9 rfl (off2 c 7) (olo_256 c 9 rfl) _ (val_c m c 9 rfl rfl rfl (by decide))) $$ HT
  iintro HT
  iapply (copy_o m K c 9 rfl (off3 c 7) rfl) $$ [$HR $HT]
  iintro HW9
  rw [wp_ret]; imodintro; iapply Hk; iframe

/-- Part 15: its last rows arrive, 160 rows of its block are sent on, and the block of the last rows is computed. -/
theorem part15 {Q} (v5 v342 v408 c0 : BitVec 32) :
    iprop(recs m K ∗ OW c [13, 14] ∗ ST c 13 ∗ WK c (rS 7) ∗ CL m c 3 0 256 ∗ WR m c ∗ OT c 10)
      ⊢ iprop(((WK c (sS 13) ∗ OW c [14] ∗ SV c (rS 7) ∗ CL m c 3 0 160 ∗ CL m c 3 320 192 ∗ CR m c 3 256 256 ∗ WR m c ∗ OV m c 10) -∗ Q ⟨⟩)
          -∗ wp frame (wpE (defs₀ (F := F)) 𝒱₀ (c : Thread nD τ) none) Set.univ
              (k0_part15 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v5 (scF m c) v342 v408 c0) Q) := by
  rw [k0_part15_eq_skeleton]
  unfold k0_part15_skel
  simp only [Prog.lift, Prog.bind_op, Prog.bind_ret, Prog.pure_eq_ret]
  iintro ⟨#HR, HO, HS, HWr, Hc, Hw, HT⟩ Hk
  iapply (wait_r m K c 7 [13, 14] (by decide) rfl rfl) $$ [$HR $HO $HWr]
  iintro ⟨Hp, Hz, HO⟩
  ihave Hp' := (recv_halves m c 7 3 256 256 rfl rfl rfl).1 $$ Hp
  icases Hp' with ⟨Hl, Hr⟩
  ihave Hl' := (left_cut m c 3 256 64 192 256 320 rfl rfl).1 $$ Hl
  icases Hl' with ⟨Hl, Hl3⟩
  ihave Hc' := (left_cut m c 3 0 160 96 256 160 rfl rfl).1 $$ Hc
  icases Hc' with ⟨Hl1, Hl2⟩
  ihave Hm := (left_cut m c 3 160 96 64 160 256 rfl rfl).2 $$ [$Hl2 $Hl]
  iapply (send_c m K c 13 (by decide) _ rfl rfl rfl rfl (dev17 c) rfl rfl) $$ [$HR $HO $HS $Hm]
  iintro ⟨HWs, HO⟩
  iapply (load_r m c (flip 2 c) (by decide) (by decide) rfl) $$ Hr
  iintro Hr
  iapply (load_w c) $$ Hw
  iintro Hw
  iapply (load_o c 10 rfl (off2 c 8)) $$ HT
  iintro %v HT
  iapply (store_o m c 10 rfl (off2 c 8) (olo_256 c 10 rfl) _ (val_c m c 10 rfl rfl rfl (by decide))) $$ HT
  iintro HT
  rw [wp_ret]; imodintro; iapply Hk; iframe

/-- Part 16: that block is copied out; the last rows of device `c xor 7` arrive and 192 of them are sent on. -/
theorem part16 {Q} (v3 v5 : BitVec 32) :
    iprop(recs m K ∗ OW c [14] ∗ OV m c 10 ∗ WK c (rS 9) ∗ ST c 14)
      ⊢ iprop(((WK c (sS 14) ∗ OW c [] ∗ WK c (oS 10) ∗ SV c (rS 9) ∗ CL m c 4 256 64 ∗ CR m c 4 256 256) -∗ Q ⟨⟩)
          -∗ wp frame (wpE (defs₀ (F := F)) 𝒱₀ (c : Thread nD τ) none) Set.univ
              (k0_part16 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v3 v5) Q) := by
  rw [k0_part16_eq_skeleton]
  unfold k0_part16_skel
  simp only [Prog.lift, Prog.bind_op, Prog.bind_ret, Prog.pure_eq_ret]
  iintro ⟨#HR, HO, HT, HWr, HS⟩ Hk
  iapply (copy_o m K c 10 rfl (off3 c 8) rfl) $$ [$HR $HT]
  iintro HWo
  iapply (wait_r m K c 9 [14] (by decide) rfl rfl) $$ [$HR $HO $HWr]
  iintro ⟨Hp, Hz, HO⟩
  ihave Hp' := (recv_halves m c 9 4 256 256 rfl rfl rfl).1 $$ Hp
  icases Hp' with ⟨Hl, Hr⟩
  ihave Hl' := (left_cut m c 4 256 64 192 256 320 rfl rfl).1 $$ Hl
  icases Hl' with ⟨Hl1, Hl⟩
  iapply (send_c m K c 14 (by decide) _ rfl rfl rfl rfl (dev18 c) rfl rfl) $$ [$HR $HO $HS $Hl]
  iintro ⟨HWs, HO⟩
  rw [wp_ret]; imodintro; iapply Hk; iframe

/-- Part 17: its first rows arrive and their block is computed; the product for its last rows. -/
theorem part17 {Q} (v343 : BitVec 32) :
    iprop(recs m K ∗ OW c [] ∗ WK c (rS 8) ∗ CR m c 4 256 256 ∗ WR m c ∗ OT c 11 ∗ OT c 12)
      ⊢ iprop((∀ v499 : (⟨2, ![256, 1024]⟩ : Shape).Idx → Elt F .f32, (OW c [] ∗ SV c (rS 8) ∗ CL m c 4 0 256 ∗ CR m c 4 0 256 ∗ CR m c 4 256 256 ∗ WR m c ∗ WK c (oS 11) ∗ OT c 12)
              -∗ Q ⟨k0_pay20 (scF m c) (chunk m (flip 7 c) 256 256 (by decide)) (wF m c), v499⟩)
          -∗ wp frame (wpE (defs₀ (F := F)) 𝒱₀ (c : Thread nD τ) none) Set.univ
              (k0_part17 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c (scF m c) v343) Q) := by
  rw [k0_part17_eq_skeleton]
  unfold k0_part17_skel
  simp only [Prog.lift, Prog.bind_op, Prog.bind_ret, Prog.pure_eq_ret]
  iintro ⟨#HR, HO, HWr, Hc, Hw, HT, HT'⟩ Hk
  iapply (wait_r m K c 8 [] (by decide) rfl rfl) $$ [$HR $HO $HWr]
  iintro ⟨Hp, Hz, HO⟩
  ihave Hp' := (recv_halves m c 8 4 0 256 rfl rfl rfl).1 $$ Hp
  icases Hp' with ⟨Hl, Hr⟩
  iapply (load_r m c (flip 7 c) (by decide) (by decide) rfl) $$ Hr
  iintro Hr
  iapply (load_w c) $$ Hw
  iintro Hw
  iapply (load_o c 11 rfl (off2 c 9)) $$ HT
  iintro %v HT
  iapply (store_o m c 11 rfl (off2 c 9) (olo_256 c 11 rfl) _ (val_c m c 11 rfl rfl rfl (by decide))) $$ HT
  iintro HT
  iapply (copy_o m K c 11 rfl (off3 c 9) rfl) $$ [$HR $HT]
  iintro HWo
  iapply (load_r m c (flip 7 c) (by decide) (by decide) rfl) $$ Hc
  iintro Hc
  iapply (load_w c) $$ Hw
  iintro Hw
  iapply (load_o c 12 rfl (off2 c 10)) $$ HT'
  iintro %v' HT'
  rw [wp_ret]; imodintro
  ihave Hk' := Hk $$ %v'
  iapply Hk'; iframe

/-- Part 18: that block is stored; the last rows of device `c xor 5` arrive and their block is computed. -/
theorem part18 {Q} (v3 v344 : BitVec 32) (v499) :
    iprop(recs m K ∗ OW c [] ∗ WK c (rS 11) ∗ WR m c ∗ OT c 12 ∗ OT c 13)
      ⊢ iprop(((OW c [] ∗ SV c (rS 11) ∗ CL m c 5 256 256 ∗ CR m c 5 256 256 ∗ WR m c ∗ WK c (oS 12) ∗ OV m c 13) -∗ Q ⟨⟩)
          -∗ wp frame (wpE (defs₀ (F := F)) 𝒱₀ (c : Thread nD τ) none) Set.univ
              (k0_part18 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v3 (scF m c) v344
                (k0_pay20 (scF m c) (chunk m (flip 7 c) 256 256 (by decide)) (wF m c)) v499) Q) := by
  rw [k0_part18_eq_skeleton]
  unfold k0_part18_skel
  simp only [Prog.lift, Prog.bind_op, Prog.bind_ret, Prog.pure_eq_ret]
  iintro ⟨#HR, HO, HWr, Hw, HT, HT'⟩ Hk
  iapply (store_o m c 12 rfl (off2 c 10) (olo_256 c 12 rfl) _ (val_c m c 12 rfl rfl rfl (by decide))) $$ HT
  iintro HT
  iapply (copy_o m K c 12 rfl (off3 c 10) rfl) $$ [$HR $HT]
  iintro HWo
  iapply (wait_r m K c 11 [] (by decide) rfl rfl) $$ [$HR $HO $HWr]
  iintro ⟨Hp, Hz, HO⟩
  ihave Hp' := (recv_halves m c 11 5 256 256 rfl rfl rfl).1 $$ Hp
  icases Hp' with ⟨Hl, Hr⟩
  iapply (load_r m c (flip 5 c) (by decide) (by decide) rfl) $$ Hr
  iintro Hr
  iapply (load_w c) $$ Hw
  iintro Hw
  iapply (load_o c 13 rfl (off2 c 11)) $$ HT'
  iintro %v HT'
  iapply (store_o m c 13 rfl (off2 c 11) (olo_256 c 13 rfl) _ (val_c m c 13 rfl rfl rfl (by decide))) $$ HT'
  iintro HT'
  rw [wp_ret]; imodintro; iapply Hk; iframe

/-- Part 19: that block is copied out; the first 160 rows of device `c xor 6` arrive and their block is computed. -/
theorem part19 {Q} (v4 v345 : BitVec 32) :
    iprop(recs m K ∗ OW c [] ∗ OV m c 13 ∗ WK c (rS 12) ∗ WR m c ∗ OT c 14)
      ⊢ iprop((∀ v, (OW c [] ∗ WK c (oS 13) ∗ SV c (rS 12) ∗ CL m c 6 0 160 ∗ CR m c 6 0 160 ∗ WR m c ∗ WK c (oS 14)) -∗ Q v)
          -∗ wp frame (wpE (defs₀ (F := F)) 𝒱₀ (c : Thread nD τ) none) Set.univ
              (k0_part19 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v4 (scF m c) v345) Q) := by
  rw [k0_part19_eq_skeleton]
  unfold k0_part19_skel
  simp only [Prog.lift, Prog.bind_op, Prog.bind_ret, Prog.pure_eq_ret]
  iintro ⟨#HR, HO, HT, HWr, Hw, HT'⟩ Hk
  iapply (copy_o m K c 13 rfl (off3 c 11) rfl) $$ [$HR $HT]
  iintro HWo
  iapply (wait_r m K c 12 [] (by decide) rfl rfl) $$ [$HR $HO $HWr]
  iintro ⟨Hp, Hz, HO⟩
  ihave Hp' := (recv_halves m c 12 6 0 160 rfl rfl rfl).1 $$ Hp
  icases Hp' with ⟨Hl, Hr⟩
  iapply (load_r m c (flip 6 c) (by decide) (by decide) rfl) $$ Hr
  iintro Hr
  iapply (load_w c) $$ Hw
  iintro Hw
  iapply (load_o c 14 rfl (off6a c)) $$ HT'
  iintro %v HT'
  iapply (store_o m c 14 rfl (off6a c) (olo_160 c 14 rfl) _ (outF_14 m c _ (pay_160 m c _ 0 (by decide)))) $$ HT'
  iintro HT'
  iapply (copy_o m K c 14 rfl (off7a c) rfl) $$ [$HR $HT']
  iintro HWo'
  rw [wp_ret]; imodintro; iapply Hk; iframe

/-- Part 20: its next 160 rows. -/
theorem part20 {Q} (v3 v5 v345 c1 : BitVec 32) :
    iprop(recs m K ∗ OW c [] ∗ WK c (rS 13) ∗ WR m c ∗ OT c 15)
      ⊢ iprop(((OW c [] ∗ SV c (rS 13) ∗ CL m c 6 160 160 ∗ CR m c 6 160 160 ∗ WR m c ∗ WK c (oS 15)) -∗ Q ⟨⟩)
          -∗ wp frame (wpE (defs₀ (F := F)) 𝒱₀ (c : Thread nD τ) none) Set.univ
              (k0_part20 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c v3 v5 (scF m c) v345 c1) Q) := by
  rw [k0_part20_eq_skeleton]
  unfold k0_part20_skel
  simp only [Prog.lift, Prog.bind_op, Prog.bind_ret, Prog.pure_eq_ret]
  iintro ⟨#HR, HO, HWr, Hw, HT'⟩ Hk
  iapply (wait_r m K c 13 [] (by decide) rfl rfl) $$ [$HR $HO $HWr]
  iintro ⟨Hp, Hz, HO⟩
  ihave Hp' := (recv_halves m c 13 6 160 160 rfl rfl rfl).1 $$ Hp
  icases Hp' with ⟨Hl, Hr⟩
  iapply (load_r m c (flip 6 c) (by decide) (by decide) rfl) $$ Hr
  iintro Hr
  iapply (load_w c) $$ Hw
  iintro Hw
  iapply (load_o c 15 rfl (off6b c)) $$ HT'
  iintro %v HT'
  iapply (store_o m c 15 rfl (off6b c) (olo_160 c 15 rfl) _ (outF_15 m c _ (pay_160 m c _ 160 (by decide)))) $$ HT'
  iintro HT'
  iapply (copy_o m K c 15 rfl (off7b c) rfl) $$ [$HR $HT']
  iintro HWo'
  rw [wp_ret]; imodintro; iapply Hk; iframe

/-- Part 21: its last 192 rows; the first two blocks of the result are out. -/
theorem part21 {Q} (v345 : BitVec 32) :
    iprop(recs m K ∗ OW c [] ∗ WK c (rS 14) ∗ WR m c ∗ OT c 16 ∗ WK c (oS 0) ∗ WK c (oS 1))
      ⊢ iprop(((OW c [] ∗ SV c (rS 14) ∗ CL m c 6 320 192 ∗ CR m c 6 320 192 ∗ WR m c ∗ WK c (oS 16) ∗ OG m c 0 ∗ OG m c 1) -∗ Q ⟨⟩)
          -∗ wp frame (wpE (defs₀ (F := F)) 𝒱₀ (c : Thread nD τ) none) Set.univ
              (k0_part21 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c (scF m c) v345) Q) := by
  rw [k0_part21_eq_skeleton]
  unfold k0_part21_skel
  simp only [Prog.lift, Prog.bind_op, Prog.bind_ret, Prog.pure_eq_ret]
  iintro ⟨#HR, HO, HWr, Hw, HT', HW0, HW1⟩ Hk
  iapply (wait_r m K c 14 [] (by decide) rfl rfl) $$ [$HR $HO $HWr]
  iintro ⟨Hp, Hz, HO⟩
  ihave Hp' := (recv_halves m c 14 6 320 192 rfl rfl rfl).1 $$ Hp
  icases Hp' with ⟨Hl, Hr⟩
  iapply (load_r m c (flip 6 c) (by decide) (by decide) rfl) $$ Hr
  iintro Hr
  iapply (load_w c) $$ Hw
  iintro Hw
  iapply (load_o c 16 rfl (off8 c)) $$ HT'
  iintro %v HT'
  iapply (store_o m c 16 rfl (off8 c) (olo_192 c 16 rfl) _ (outF_16 m c _ (pay_192 m c _ 320 (by decide)))) $$ HT'
  iintro HT'
  iapply (copy_o m K c 16 rfl (off9 c) rfl) $$ [$HR $HT']
  iintro HWo'
  iapply (wait_o m K c 0 rfl rfl) $$ [$HR $HO $HW0]
  iintro ⟨H0, HO⟩
  iapply (wait_o m K c 1 rfl rfl) $$ [$HR $HO $HW1]
  iintro ⟨H1, HO⟩
  rw [wp_ret]; imodintro; iapply Hk; iframe

/-- Part 22: eight more are out. -/
theorem part22 {Q} :
    iprop(recs m K ∗ OW c [] ∗ WK c (oS 2) ∗ WK c (oS 3) ∗ WK c (oS 4) ∗ WK c (oS 5) ∗ WK c (oS 6) ∗ WK c (oS 7) ∗ WK c (oS 8) ∗ WK c (oS 9))
      ⊢ iprop(((OW c [] ∗ OG m c 2 ∗ OG m c 3 ∗ OG m c 4 ∗ OG m c 5 ∗ OG m c 6 ∗ OG m c 7 ∗ OG m c 8 ∗ OG m c 9) -∗ Q ⟨⟩)
          -∗ wp frame (wpE (defs₀ (F := F)) 𝒱₀ (c : Thread nD τ) none) Set.univ
              (k0_part22 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c) Q) := by
  rw [k0_part22_eq_skeleton]
  unfold k0_part22_skel
  simp only [Prog.lift, Prog.bind_op, Prog.bind_ret, Prog.pure_eq_ret]
  iintro ⟨#HR, HO, HW2, HW3, HW4, HW5, HW6, HW7, HW8, HW9⟩ Hk
  iapply (wait_o m K c 2 rfl rfl) $$ [$HR $HO $HW2]
  iintro ⟨H2, HO⟩
  iapply (wait_o m K c 3 rfl rfl) $$ [$HR $HO $HW3]
  iintro ⟨H3, HO⟩
  iapply (wait_o m K c 4 rfl rfl) $$ [$HR $HO $HW4]
  iintro ⟨H4, HO⟩
  iapply (wait_o m K c 5 rfl rfl) $$ [$HR $HO $HW5]
  iintro ⟨H5, HO⟩
  iapply (wait_o m K c 6 rfl rfl) $$ [$HR $HO $HW6]
  iintro ⟨H6, HO⟩
  iapply (wait_o m K c 7 rfl rfl) $$ [$HR $HO $HW7]
  iintro ⟨H7, HO⟩
  iapply (wait_o m K c 8 rfl rfl) $$ [$HR $HO $HW8]
  iintro ⟨H8, HO⟩
  iapply (wait_o m K c 9 rfl rfl) $$ [$HR $HO $HW9]
  iintro ⟨H9, HO⟩
  rw [wp_ret]; imodintro; iapply Hk; iframe

/-- Part 23: the others are out. -/
theorem part23 {Q} :
    iprop(recs m K ∗ OW c [] ∗ WK c (oS 10) ∗ WK c (oS 11) ∗ WK c (oS 12) ∗ WK c (oS 13) ∗ WK c (oS 14) ∗ WK c (oS 15) ∗ WK c (oS 16))
      ⊢ iprop(((OW c [] ∗ OG m c 10 ∗ OG m c 11 ∗ OG m c 12 ∗ OG m c 13 ∗ OG m c 14 ∗ OG m c 15 ∗ OG m c 16) -∗ Q ⟨⟩)
          -∗ wp frame (wpE (defs₀ (F := F)) 𝒱₀ (c : Thread nD τ) none) Set.univ
              (k0_part23 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8 c) Q) := by
  rw [k0_part23_eq_skeleton]
  unfold k0_part23_skel
  simp only [Prog.lift, Prog.bind_op, Prog.bind_ret, Prog.pure_eq_ret]
  iintro ⟨#HR, HO, HW0, HW1, HW2, HW3, HW4, HW5, HW6⟩ Hk
  iapply (wait_o m K c 10 rfl rfl) $$ [$HR $HO $HW0]
  iintro ⟨H0, HO⟩
  iapply (wait_o m K c 11 rfl rfl) $$ [$HR $HO $HW1]
  iintro ⟨H1, HO⟩
  iapply (wait_o m K c 12 rfl rfl) $$ [$HR $HO $HW2]
  iintro ⟨H2, HO⟩
  iapply (wait_o m K c 13 rfl rfl) $$ [$HR $HO $HW3]
  iintro ⟨H3, HO⟩
  iapply (wait_o m K c 14 rfl rfl) $$ [$HR $HO $HW4]
  iintro ⟨H4, HO⟩
  iapply (wait_o m K c 15 rfl rfl) $$ [$HR $HO $HW5]
  iintro ⟨H5, HO⟩
  iapply (wait_o m K c 16 rfl rfl) $$ [$HR $HO $HW6]
  iintro ⟨H6, HO⟩
  rw [wp_ret]; imodintro; iapply Hk; iframe

/-- Part 24: the sources of four transfers are back, -/
theorem part24 {Q} :
    iprop(recs m K ∗ OW c [] ∗ WK c (sS 0) ∗ WK c (sS 2) ∗ WK c (sS 4) ∗ WK c (sS 1))
      ⊢ iprop(((OW c [] ∗ SG m c 0 ∗ SG m c 2 ∗ SG m c 4 ∗ SG m c 1) -∗ Q ⟨⟩)
          -∗ wp frame (wpE (defs₀ (F := F)) 𝒱₀ (c : Thread nD τ) none) Set.univ
              (k0_part24 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8) Q) := by
  rw [k0_part24_eq_skeleton]
  unfold k0_part24_skel
  simp only [Prog.lift, Prog.bind_op, Prog.bind_ret, Prog.pure_eq_ret]
  iintro ⟨#HR, HO, HW0, HW1, HW2, HW3⟩ Hk
  iapply (wait_s m K c 0 rfl rfl) $$ [$HR $HO $HW0]
  iintro ⟨H0, HO⟩
  iapply (wait_s m K c 2 rfl rfl) $$ [$HR $HO $HW1]
  iintro ⟨H1, HO⟩
  iapply (wait_s m K c 4 rfl rfl) $$ [$HR $HO $HW2]
  iintro ⟨H2, HO⟩
  iapply (wait_s m K c 1 rfl rfl) $$ [$HR $HO $HW3]
  iintro ⟨H3, HO⟩
  rw [wp_ret]; imodintro; iapply Hk; iframe

/-- part 25: of four more, -/
theorem part25 {Q} :
    iprop(recs m K ∗ OW c [] ∗ WK c (sS 3) ∗ WK c (sS 5) ∗ WK c (sS 6) ∗ WK c (sS 8))
      ⊢ iprop(((OW c [] ∗ SG m c 3 ∗ SG m c 5 ∗ SG m c 6 ∗ SG m c 8) -∗ Q ⟨⟩)
          -∗ wp frame (wpE (defs₀ (F := F)) 𝒱₀ (c : Thread nD τ) none) Set.univ
              (k0_part25 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8) Q) := by
  rw [k0_part25_eq_skeleton]
  unfold k0_part25_skel
  simp only [Prog.lift, Prog.bind_op, Prog.bind_ret, Prog.pure_eq_ret]
  iintro ⟨#HR, HO, HW0, HW1, HW2, HW3⟩ Hk
  iapply (wait_s m K c 3 rfl rfl) $$ [$HR $HO $HW0]
  iintro ⟨H0, HO⟩
  iapply (wait_s m K c 5 rfl rfl) $$ [$HR $HO $HW1]
  iintro ⟨H1, HO⟩
  iapply (wait_s m K c 6 rfl rfl) $$ [$HR $HO $HW2]
  iintro ⟨H2, HO⟩
  iapply (wait_s m K c 8 rfl rfl) $$ [$HR $HO $HW3]
  iintro ⟨H3, HO⟩
  rw [wp_ret]; imodintro; iapply Hk; iframe

/-- part 26: and of four more. -/
theorem part26 {Q} :
    iprop(recs m K ∗ OW c [] ∗ WK c (sS 10) ∗ WK c (sS 7) ∗ WK c (sS 9) ∗ WK c (sS 11))
      ⊢ iprop(((OW c [] ∗ SG m c 10 ∗ SG m c 7 ∗ SG m c 9 ∗ SG m c 11) -∗ Q ⟨⟩)
          -∗ wp frame (wpE (defs₀ (F := F)) 𝒱₀ (c : Thread nD τ) none) Set.univ
              (k0_part26 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8) Q) := by
  rw [k0_part26_eq_skeleton]
  unfold k0_part26_skel
  simp only [Prog.lift, Prog.bind_op, Prog.bind_ret, Prog.pure_eq_ret]
  iintro ⟨#HR, HO, HW0, HW1, HW2, HW3⟩ Hk
  iapply (wait_s m K c 10 rfl rfl) $$ [$HR $HO $HW0]
  iintro ⟨H0, HO⟩
  iapply (wait_s m K c 7 rfl rfl) $$ [$HR $HO $HW1]
  iintro ⟨H1, HO⟩
  iapply (wait_s m K c 9 rfl rfl) $$ [$HR $HO $HW2]
  iintro ⟨H2, HO⟩
  iapply (wait_s m K c 11 rfl rfl) $$ [$HR $HO $HW3]
  iintro ⟨H3, HO⟩
  rw [wp_ret]; imodintro; iapply Hk; iframe

end Cert.KernelProof
-- ==== Proof.Start.lean ====
/-
# The start of the body

The first part of the body: the columns of `w` start to arrive, the device's own rows are copied, and the barrier with the three
neighbours is passed. Each device hands each neighbour the places where that neighbour's transfers are to land.
-/
module

public import proofs.«01_k».proof.Proof.Parts

@[expose] public section

set_option maxRecDepth 65536

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 49 → ℕ) (c : Dev nD)

/-- What the barrier takes: a token for each neighbour's signal, the credit for its own three units, and its place. -/
def BK : sProp 𝕄 :=
  iprop(dutyTok ER (barC (flip 1 c)) 0 0 ∗ dutyTok ER (barC (flip 3 c)) 0 1 ∗ dutyTok ER (barC (flip 4 c)) 0 2
    ∗ cred (tallyAt (barC c) () 3) ∗ atPos ER (barC c) 0 ∅ 0)

/-- Where the first neighbour's transfers land on device `c`, -/
def LA : sProp 𝕄 := iprop(landing c 0 ∗ landing c 1 ∗ landing c 10 ∗ landing c 11 ∗ landing c 14)
/-- the second one's, -/
def LB : sProp 𝕄 := iprop(landing c 2 ∗ landing c 3 ∗ landing c 6 ∗ landing c 7 ∗ landing c 12)
/-- and the third one's. -/
def LC : sProp 𝕄 := iprop(landing c 4 ∗ landing c 5 ∗ landing c 8 ∗ landing c 9 ∗ landing c 13)

omit [FloatOps F] in
theorem barPay_a : barPay (F := F) (flip 1 c) 0 = LA c := by
  unfold barPay LA
  rw [if_pos rfl, flip_flip (by decide)]
omit [FloatOps F] in
theorem barPay_b : barPay (F := F) (flip 3 c) 1 = LB c := by
  unfold barPay LB
  rw [if_neg (by decide), if_pos rfl, flip_flip (by decide)]
omit [FloatOps F] in
theorem barPay_c : barPay (F := F) (flip 4 c) 2 = LC c := by
  unfold barPay LC
  rw [if_neg (by decide), if_neg (by decide), flip_flip (by decide)]

/-- The device's own rows, whole, -/
theorem rows_all : rowsX 0 512 = Finset.univ := by
  ext i
  have : (i 0).val < 512 := (i 0).isLt
  simp only [mem_rowsX, Finset.mem_univ, iff_true]
  omega
/-- and in two halves. -/
theorem own_cut (f : S512x4096.Idx → Elt F .fp8e5m2) :
    xAt c (rowsX 0 512) fullShare f ⊣⊢ iprop(xAt c (rowsX 0 256) fullShare f ∗ xAt c (rowsX 256 256) fullShare f) := by
  have hS : rowsX 0 512 = rowsX 0 256 ∪ rowsX 256 256 := by
    ext i
    simp only [Finset.mem_union, mem_rowsX]
    omega
  have hD : Disjoint (rowsX 0 256) (rowsX 256 256) := Finset.disjoint_left.mpr fun i h h' => by
    rw [mem_rowsX] at h h'
    omega
  unfold xAt
  rw [hS]
  exact pointsTo_union hD

/-- A load of the buffer of its own rows, whatever it holds. -/
theorem load_any {α : Type} {Q : α → sProp 𝕄} {n lo : ℕ} {f : S512x4096.Idx → Elt F .fp8e5m2}
    {inb : ∀ a, (![lo, 0] : Fin 2 → ℕ) a + (⟨2, ![n, 4096]⟩ : Shape).size a ≤ S512x4096.size a}
    {k : ((⟨2, ![n, 4096]⟩ : Shape).Idx → Elt F .fp8e5m2) → Prog (TpuEff nD τ sig (Elt F) Λ₀ .tc) α} {hl} :
    xAt c (rowsX lo n) fullShare f
      ⊢ iprop((∀ v, xAt c (rowsX lo n) fullShare f -∗ wp frame (wpE (defs₀ (F := F)) 𝒱₀ (c : Thread nD τ) none) Set.univ (k v) Q)
          -∗ wp frame (wpE (defs₀ (F := F)) 𝒱₀ (c : Thread nD τ) none) Set.univ
              (.op (.load xM (Rect.unit (s := S512x4096) ![lo, 0] (⟨2, ![n, 4096]⟩ : Shape).size inb).toLoadRect hl) k) Q) := by
  unfold xAt
  iintro H Hk
  iapply (wp_load_rect 𝒱₀ (c : Thread nD τ) none Set.univ (m := xM) (r := Rect.unit (s := S512x4096) ![lo, 0] (⟨2, ![n, 4096]⟩ : Shape).size inb)
    (k := k) (S := rowsX lo n) (q := fullShare) (f := f) (by rw [setOn_x])) $$ H
  iintro H
  iapply Hk
  iexact H

/-- Part 1. -/
theorem part1 {Q} :
    iprop(recs m K ∗ (∃ W, owes (c : Thread nD τ) (O₀ c) W) ∗ LK c wS ∗ hAt m c (colsW c) ∗ (∃ f, tAt c f) ∗ GR m c
        ∗ (∃ f, xAt c (rowsX 0 512) fullShare f) ∗ BK c ∗ LA c ∗ LB c ∗ LC c)
      ⊢ iprop((∀ v2 v3 v4 v5, (WK c wS ∗ OW c order ∗ GR m c ∗ xAt c (rowsX 0 256) fullShare (X m c) ∗ xAt c (rowsX 256 256) fullShare (X m c)
              ∗ semVal (barC c) 0 ∗ barPay c 0 ∗ barPay c 1 ∗ barPay c 2) -∗ Q ⟨c, v2, v3, v4, v5⟩)
          -∗ wp frame (wpE (defs₀ (F := F)) 𝒱₀ (c : Thread nD τ) none) Set.univ
              (k0_part1 gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8) Q) := by
  rw [k0_part1_eq_skeleton]
  unfold k0_part1_skel
  simp only [semSignalWord, semWaitWord, Prog.lift, Prog.bind_op, Prog.bind_ret, Prog.pure_eq_ret, wp_deviceId]
  iintro ⟨#HR, ⟨%W, HO⟩, HLw, Hh, Ht, Hg, ⟨%fx, Hx⟩, HB, HA, HBb, HCc⟩ Hk
  ihave #Hia := (recs_inv m K (flip 1 c) 48 _ csem_B) $$ HR
  ihave #Hib := (recs_inv m K (flip 3 c) 48 _ csem_B) $$ HR
  ihave #Hic := (recs_inv m K (flip 4 c) 48 _ csem_B) $$ HR
  ihave #Hi := (recs_inv m K c 48 _ csem_B) $$ HR
  ihave #Hra := (recs_reached m K (flip 1 c) 48 _ csem_B) $$ HR
  ihave #Hrb := (recs_reached m K (flip 3 c) 48 _ csem_B) $$ HR
  ihave #Hrc := (recs_reached m K (flip 4 c) 48 _ csem_B) $$ HR
  ihave #Hlev := (recs_lev m K) $$ HR
  iapply (copy_w m K c (k0_off1_eq c) rfl) $$ [$HR $HLw $Hh $Ht]
  iintro HWw
  iapply (load_g m c (by decide)) $$ Hg
  iintro Hg
  iapply (load_any c) $$ Hx
  iintro %vx Hx
  iapply (store_x m c (by decide) _ (by unfold k0_pay1; simp only [shapeCast_self])) $$ Hx
  iintro Hx
  rw [dev1 c, dev2 c, dev3 c]
  unfold BK
  icases HB with ⟨Hta, Htb, Htc, Hcr, Hat⟩
  iapply (Rounds.wp_signal 𝒱₀ ER (Rd m) (c : Thread nD τ) none (dst := (flip 1 c : Thread nD τ)) (κ := K (flip 1 c, 48))
      (d := 0) (mem_duties_bar m (flip 1 c) 0) ((amount_bar m (flip 1 c) 0).trans (by decide)) ()
      (owedT c order + tallyAt (barC (flip 4 c)) () 1 + tallyAt (barC (flip 3 c)) () 1) rfl)
    $$ [HO Hta HA]
  · isplitr; · iexact Hia
    isplitl [HO]; · iexact HO
    isplitl [Hta]; · iexact Hta
    isplitl [HA]; · rw [payload_bar, barPay_a]; iexact HA
    iexact Hra
  iintro HO
  iapply (Rounds.wp_signal 𝒱₀ ER (Rd m) (c : Thread nD τ) none (dst := (flip 3 c : Thread nD τ)) (κ := K (flip 3 c, 48))
      (d := 1) (mem_duties_bar m (flip 3 c) 1) ((amount_bar m (flip 3 c) 1).trans (by decide)) ()
      (owedT c order + tallyAt (barC (flip 4 c)) () 1) rfl)
    $$ [HO Htb HBb]
  · isplitr; · iexact Hib
    isplitl [HO]; · iexact HO
    isplitl [Htb]; · iexact Htb
    isplitl [HBb]; · rw [payload_bar, barPay_b]; iexact HBb
    iexact Hrb
  iintro HO
  iapply (Rounds.wp_signal 𝒱₀ ER (Rd m) (c : Thread nD τ) none (dst := (flip 4 c : Thread nD τ)) (κ := K (flip 4 c, 48))
      (d := 2) (mem_duties_bar m (flip 4 c) 2) ((amount_bar m (flip 4 c) 2).trans (by decide)) ()
      (owedT c order) rfl)
    $$ [HO Htc HCc]
  · isplitr; · iexact Hic
    isplitl [HO]; · iexact HO
    isplitl [Htc]; · iexact Htc
    isplitl [HCc]; · rw [payload_bar, barPay_c]; iexact HCc
    iexact Hrc
  iintro HO
  iapply (Rounds.wp_wait_rest_token 𝒱₀ ER (Rd m) (c : Thread nD τ) none (κ := K (c, 48))
      (wpE_semWait_eq 𝒱₀ (c : Thread nD τ) none Set.univ) (Set.mem_univ _) () (O := owedT c order) (W := W) (R := 0) (m := 0) (T := ∅)
      (by rw [expect_bar]; decide)) $$ [Hcr HO Hat]
  · isplitr; · iexact Hi
    isplitl [Hcr]; · iexact Hcr
    isplitl [HO]; · iexact HO
    isplitr; · iapply (mayWait c (.reg barS) order (by decide)); iexact Hlev
    iexact Hat
  iintro ⟨HO, Hat, -, Hpay⟩
  ihave Hp := (Entails.of_eq (rest_bar m c)) $$ Hpay
  icases Hp with ⟨Hp0, Hp1, Hp2⟩
  imod (Rounds.cell_close ER (Rd m) (Set.mem_univ (K (c, 48))) (fun h => h) (R := 0 + 1) (duties_later m (barC c))) $$ [Hat] with Hz
  · isplitr; · iexact Hi
    iexact Hat
  ihave Hx' := (own_cut c (X m c)).1 $$ Hx
  icases Hx' with ⟨Hx1, Hx2⟩
  iapply (load_g m c (by decide)) $$ Hg
  iintro Hg
  iapply (load_any c) $$ Hx1
  iintro %vx' Hx1
  iapply (store_x m c (by decide) _ (by unfold k0_pay2; simp only [shapeCast_self])) $$ Hx1
  iintro Hx1
  rw [wp_ret]; imodintro; iapply Hk
  unfold OW
  iframe HWw Hg Hx1 Hx2 Hz Hp0 Hp1 Hp2
  iexists _
  iexact HO

end Cert.KernelProof
-- ==== Proof.Body.lean ====
/-
# The body

The parts of the body, one after the other: what the whole body takes and what it leaves.
-/
module

public import proofs.«01_k».proof.Proof.Start

@[expose] public section

set_option maxRecDepth 65536

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 49 → ℕ) (c : Dev nD)

omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
/-- What the three neighbours hand over at the barrier is where the fifteen transfers land. -/
theorem bar_all : iprop(barPay (F := F) c 0 ∗ barPay c 1 ∗ barPay c 2) ⊢ bigSep Finset.univ fun i : Fin 15 => landing (flip (mask i) c) i := by
  rw [bigSep_fin15]
  unfold barPay
  rw [if_pos rfl, if_neg (by decide), if_pos rfl, if_neg (by decide), if_neg (by decide)]
  iintro ⟨⟨H0, H1, H10, H11, H14⟩, ⟨H2, H3, H6, H7, H12⟩, ⟨H4, H5, H8, H9, H13⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The transfers, each with its place to land. -/
theorem st_all : iprop((barPay (F := F) c 0 ∗ barPay c 1 ∗ barPay c 2) ∗ bigSep Finset.univ (SK (F := F) c)) ⊢ bigSep Finset.univ (ST (F := F) c) := by
  unfold ST
  rw [bigSep_sep']
  iintro ⟨HB, HS⟩
  isplitl [HS]; · iexact HS
  iapply (bar_all c)
  iexact HB

/-- The halves of the landed rows that the kernel has kept for reading, -/
def CRs : sProp 𝕄 :=
  iprop(CR m c 0 0 256 ∗ CR m c 0 256 256 ∗ CR m c 1 0 256 ∗ CR m c 1 256 256 ∗ CR m c 2 0 256 ∗ CR m c 2 256 256 ∗ CR m c 3 0 256
    ∗ CR m c 3 256 256 ∗ CR m c 4 0 256 ∗ CR m c 4 256 256 ∗ CR m c 5 0 256 ∗ CR m c 5 256 256 ∗ CR m c 6 0 160 ∗ CR m c 6 160 160
    ∗ CR m c 6 320 192)
/-- and the other halves of those rows that it has passed on to nobody. -/
def CLs : sProp 𝕄 :=
  iprop(CL m c 3 0 160 ∗ CL m c 3 320 192 ∗ CL m c 4 0 256 ∗ CL m c 4 256 64 ∗ CL m c 5 160 96 ∗ CL m c 5 256 256 ∗ CL m c 6 0 160
    ∗ CL m c 6 160 160 ∗ CL m c 6 320 192)

/-- What the body takes, -/
def Pre0 : sProp 𝕄 :=
  iprop((∃ W, owes (c : Thread nD τ) (O₀ c) W) ∗ GR m c ∗ SR m c ∗ LK c wS ∗ hAt m c (colsW c) ∗ (∃ f, tAt c f)
    ∗ (∃ f, xAt c (rowsX 0 512) fullShare f) ∗ (∃ f, wAt c f) ∗ BK c ∗ LA c ∗ LB c ∗ LC c
    ∗ bigSep Finset.univ (SK (F := F) c) ∗ bigSep Finset.univ (fun i => WK (F := F) c (rS i)) ∗ bigSep Finset.univ (OT (F := F) c))
/-- and what it leaves. -/
def Done : sProp 𝕄 :=
  iprop(OW c [] ∗ GR m c ∗ SR m c ∗ tAt c (wF m c) ∗ hAt m c (colsW c) ∗ WR m c ∗ SV c wS ∗ semVal (barC c) 0 ∗ XR m c 0 ∗ XR m c 256
    ∗ bigSep Finset.univ (fun i => SV (F := F) c (rS i)) ∗ bigSep Finset.univ (SG m c) ∗ bigSep Finset.univ (OG m c) ∗ CRs m c ∗ CLs m c)

set_option maxHeartbeats 4000000 in
/-- The body. -/
theorem body {Q} :
    iprop(recs m K ∗ Pre0 m c)
      ⊢ iprop((Done m c -∗ Q ⟨⟩)
          -∗ wp frame (wpE (defs₀ (F := F)) 𝒱₀ (c : Thread nD τ) none) Set.univ
              (cc0_body gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8) Q) := by
  rw [cc0_body_eq_skeleton]
  unfold cc0_body_skel
  rw [k0_part27_eq_skeleton]
  unfold k0_part27_skel Pre0
  rw [bigSep_fin15 (fun i => WK c (rS i)), bigSep_fin17 (OT c)]
  iintro ⟨#HR, HO, Hg, Hsc, HLw, Hh, Ht, Hx, Hw, HB, HA, HBb, HCc, HS, ⟨R0, R1, R2, R3, R4, R5, R6, R7, R8, R9, R10, R11, R12, R13, R14⟩, ⟨J0, J1, J2, J3, J4, J5, J6, J7, J8, J9, J10, J11, J12, J13, J14, J15, J16⟩⟩ Hk
  simp only [Prog.lift, Prog.bind_assoc, Prog.bind_op, Prog.bind_ret, Prog.pure_eq_ret]
  rw [wp_bind]
  iapply (part1 m K c) $$ [$HR $HO $HLw $Hh $Ht $Hg $Hx $HB $HA $HBb $HCc]
  iintro %v2 %v3 %v4 %v5 ⟨Ww, HO, Hg, Hx1, Hx2, Hz, Hb0, Hb1, Hb2⟩
  ihave HT := (st_all c) $$ [Hb0 Hb1 Hb2 HS]
  · isplitl [Hb0 Hb1 Hb2]
    · isplitl [Hb0]; · iexact Hb0
      isplitl [Hb1] <;> iassumption
    iexact HS
  ihave HT' := (Entails.of_eq (bigSep_fin15 (ST c))) $$ HT
  icases HT' with ⟨T0, T1, T2, T3, T4, T5, T6, T7, T8, T9, T10, T11, T12, T13, T14⟩
  dsimp only
  rw [wp_bind]
  iapply (part2 m K c v3 v4 v5 _) $$ [$HR $HO $T0 $T2 $T4 $Hx1 $Hg]
  iintro ⟨S0, S2, S4, HO, Hr0, Hg⟩
  rw [wp_bind]
  iapply (part3 m K c v3 v4 v5 _) $$ [$HR $HO $T1 $T3 $Hx2]
  iintro ⟨S1, S3, HO, Hx5, Hr1⟩
  rw [wp_bind]
  iapply (part4 m K c v3 v4) $$ [$HR $HO $T5 $T6 $Hx5 $Ww $R0 $Hw $Hsc]
  iintro ⟨S5, S6, HO, Ht, Hh, HzW, Z0, D0, Hw, Hsc⟩
  rw [wp_bind]
  iapply (part5 m K c v3 v4 v5) $$ [$HR $HO $T8 $R2 $R4]
  iintro %v133 %c0 ⟨S8, HO, Z2, Z4, D2, E4, D4⟩
  dsimp only
  rw [wp_bind]
  iapply (part6 m K c v2 v133 c0 _) $$ [$HR $HO $T10 $E4 $D0 $D2 $Hw $J0]
  iintro %v164 ⟨S10, HO, D0, D2, Hw, P0⟩
  dsimp only
  rw [wp_bind]
  iapply (part7 m K c v2 v164) $$ [$HR $D4 $Hw $J1 $J2]
  iintro ⟨D4, Hw, P1, P2⟩
  rw [wp_bind]
  iapply (part8 m K c v2 v3 v4) $$ [$HR $HO $R1 $Hr0 $Hw $J3]
  iintro ⟨HO, Z1, E1, D1, Hr0, Hw, P3⟩
  rw [wp_bind]
  iapply (part9 m K c v4 v5) $$ [$HR $HO $T7 $T9 $E1 $R3]
  iintro ⟨S7, S9, HO, Z3, D3⟩
  rw [wp_bind]
  iapply (part10 m K c v2 v3) $$ [$HR $HO $T11 $R5 $D1 $Hw $J4]
  iintro ⟨S11, HO, Z5, D5, D1, Hw, P4⟩
  rw [wp_bind]
  iapply (part11 m K c v2) $$ [$HR $D3 $D5 $Hw $J5 $J6]
  iintro ⟨D3, D5, Hw, P5, J6⟩
  rw [wp_bind]
  iapply (part12 m K c v2 v3) $$ [$HR $Hr1 $Hw $J6 $J7]
  iintro %v342 %v343 %v344 %v345 ⟨Hr1, Hw, P6, P7⟩
  dsimp only
  rw [wp_bind]
  iapply (part13 m K c v4 v344) $$ [$HR $HO $T12 $R10 $Hw $J8]
  iintro ⟨S12, HO, Z10, E10, D10, Hw, J8⟩
  rw [wp_bind]
  iapply (part14 m K c v4 v342) $$ [$HR $HO $J8 $R6 $Hw $J9]
  iintro %v408 %c0' ⟨HO, P8, Z6, E6, D6, Hw, P9⟩
  dsimp only
  rw [wp_bind]
  iapply (part15 m K c v5 v342 v408 c0') $$ [$HR $HO $T13 $R7 $E6 $Hw $J10]
  iintro ⟨S13, HO, Z7, E6, E7, D7, Hw, J10⟩
  rw [wp_bind]
  iapply (part16 m K c v3 v5) $$ [$HR $HO $J10 $R9 $T14]
  iintro ⟨S14, HO, P10, Z9, E9, D9⟩
  rw [wp_bind]
  iapply (part17 m K c v343) $$ [$HR $HO $R8 $D9 $Hw $J11 $J12]
  iintro %v499 ⟨HO, Z8, E8, D8, D9, Hw, P11, J12⟩
  dsimp only
  rw [wp_bind]
  iapply (part18 m K c v3 v344 v499) $$ [$HR $HO $R11 $Hw $J12 $J13]
  iintro ⟨HO, Z11, E11, D11, Hw, P12, J13⟩
  rw [wp_bind]
  iapply (part19 m K c v4 v345) $$ [$HR $HO $J13 $R12 $Hw $J14]
  iintro %c1 ⟨HO, P13, Z12, E12, D12, Hw, P14⟩
  rw [wp_bind]
  iapply (part20 m K c v3 v5 v345 c1) $$ [$HR $HO $R13 $Hw $J15]
  iintro ⟨HO, Z13, E13, D13, Hw, P15⟩
  rw [wp_bind]
  iapply (part21 m K c v345) $$ [$HR $HO $R14 $Hw $J16 $P0 $P1]
  iintro ⟨HO, Z14, E14, D14, Hw, P16, G0, G1⟩
  rw [wp_bind]
  iapply (part22 m K c) $$ [$HR $HO $P2 $P3 $P4 $P5 $P6 $P7 $P8 $P9]
  iintro ⟨HO, G2, G3, G4, G5, G6, G7, G8, G9⟩
  rw [wp_bind]
  iapply (part23 m K c) $$ [$HR $HO $P10 $P11 $P12 $P13 $P14 $P15 $P16]
  iintro ⟨HO, G10, G11, G12, G13, G14, G15, G16⟩
  rw [wp_bind]
  iapply (part24 m K c) $$ [$HR $HO $S0 $S2 $S4 $S1]
  iintro ⟨HO, S0, S2, S4, S1⟩
  rw [wp_bind]
  iapply (part25 m K c) $$ [$HR $HO $S3 $S5 $S6 $S8]
  iintro ⟨HO, S3, S5, S6, S8⟩
  rw [wp_bind]
  iapply (part26 m K c) $$ [$HR $HO $S10 $S7 $S9 $S11]
  iintro ⟨HO, S10, S7, S9, S11⟩
  iapply (wait_s m K c 14 rfl rfl) $$ [$HR $HO $S14]
  iintro ⟨S14, HO⟩
  iapply (wait_s m K c 12 rfl rfl) $$ [$HR $HO $S12]
  iintro ⟨S12, HO⟩
  iapply (wait_s m K c 13 rfl rfl) $$ [$HR $HO $S13]
  iintro ⟨S13, HO⟩
  rw [wp_ret]; imodintro; iapply Hk
  unfold Done CRs CLs
  rw [bigSep_fin15 (fun i => SV c (rS i)), bigSep_fin15 (SG m c), bigSep_fin17 (OG m c)]
  iframe

end Cert.KernelProof
-- ==== Proof.Ends.lean ====
/-
# Before and after the body

The buffers, whole, are cut into what the body takes, and what it leaves is put together to whole buffers again.
-/
module

public import proofs.«01_k».proof.Proof.Body
public import Idealize.ShloMosaic.Lib.Ring

@[expose] public section

set_option maxRecDepth 65536

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 49 → ℕ) (c : Dev nD)

/-! ## The landing buffer -/

/-- Two transfers land in different places. -/
theorem dst_apart : ∀ i j : Fin 15, i ≠ j → dslot i ≠ dslot j ∨ tlo i + tlen i ≤ tlo j ∨ tlo j + tlen j ≤ tlo i := by decide +kernel
/-- The slots but the last are filled in halves. -/
theorem dst_halves : ∀ s : Fin 6, ∃ i j : Fin 15, dslot i = s.val ∧ tlo i = 0 ∧ tlen i = 256 ∧ dslot j = s.val ∧ tlo j = 256 ∧ tlen j = 256 := by
  decide +kernel

theorem dst_disjoint (i j : Fin 15) (h : i ≠ j) : Disjoint (dstSet i) (dstSet j) :=
  Finset.disjoint_left.mpr fun x hx hy => by
    unfold dstSet at hx hy
    rw [mem_slotC] at hx hy
    rcases dst_apart i j h with h | h | h
    · exact h (hx.1.symm.trans hy.1)
    · omega
    · omega

theorem dst_cover : (Finset.univ : Finset (Fin 15)).biUnion dstSet = Finset.univ := by
  ext x
  simp only [Finset.mem_biUnion, Finset.mem_univ, true_and, iff_true]
  unfold dstSet
  simp only [mem_slotC]
  have h0 : (x 0).val < 7 := (x 0).isLt
  have h1 : (x 1).val < 512 := (x 1).isLt
  by_cases h6 : (x 0).val < 6
  · obtain ⟨i, j, e1, e2, e3, e4, e5, e6⟩ := dst_halves ⟨(x 0).val, h6⟩
    by_cases h : (x 1).val < 256
    · exact ⟨i, by rw [e1, e2, e3]; exact ⟨rfl, by omega, by omega⟩⟩
    · exact ⟨j, by rw [e4, e5, e6]; exact ⟨rfl, by omega, by omega⟩⟩
  · have h6' : (x 0).val = 6 := by omega
    by_cases h : (x 1).val < 160
    · exact ⟨12, h6', Nat.zero_le _, by show _ < 0 + 160; omega⟩
    · by_cases h' : (x 1).val < 320
      · exact ⟨13, h6', by show 160 ≤ _; omega, by show _ < 160 + 160; omega⟩
      · exact ⟨14, h6', by show 320 ≤ _; omega, by show _ < 320 + 192; omega⟩

omit [FloatOps F] in
/-- The landing buffer in the fifteen places. -/
theorem comm_blocks (f : S7x512x4096.Idx → Elt F .fp8e5m2) :
    (((c : Thread nD τ).loc cc0_scratch1) ↦{fullShare} f : sProp 𝕄) = bigSep Finset.univ fun i : Fin 15 => cAt c (dstSet i) fullShare f := by
  unfold cAt
  exact Ring.pointsTo_blocks (ℓ := (c : Thread nD τ).loc cc0_scratch1) dstSet dst_disjoint dst_cover f

omit [FloatOps F] in
/-- The places that are handed to the neighbours. -/
theorem comm_cut (f : S7x512x4096.Idx → Elt F .fp8e5m2) :
    (((c : Thread nD τ).loc cc0_scratch1) ↦{fullShare} f : sProp 𝕄) ⊢ iprop(LA c ∗ LB c ∗ LC c) := by
  have h : (bigSep Finset.univ fun i : Fin 15 => cAt c (dstSet i) fullShare f : sProp 𝕄) ⊢ bigSep Finset.univ fun i : Fin 15 => landing c i :=
    bigSep_mono fun i _ => by
      unfold landing
      show _ ⊢ iprop(∃ f, cAt c (dstSet i) fullShare f)
      iintro H
      iexists f
      iexact H
  rw [comm_blocks]
  refine h.trans ?_
  rw [bigSep_fin15]
  unfold LA LB LC
  iintro ⟨H0, H1, H2, H3, H4, H5, H6, H7, H8, H9, H10, H11, H12, H13, H14⟩
  isplitl [H0 H1 H10 H11 H14]
  · iframe
  isplitl [H2 H3 H6 H7 H12]
  · iframe
  iframe

/-- What the source semaphore of one of the first six transfers gives back, -/
theorem send_own (i : Fin 15) (h : i.val < 6) : sendPay m c i = XS m c i := by
  unfold sendPay XS
  exact if_pos h
/-- and of one of the others. -/
theorem send_pass (i : Fin 15) (s lo n : ℕ) (h : ¬ i.val < 6) (hs : sslot i = s) (hl : tlo i = lo) (hn : tlen i = n) : sendPay m c i = CL m c s lo n := by
  subst hs hl hn
  unfold sendPay CL srcSet
  exact if_neg h

/-- All the landed rows, together again. -/
theorem comm_join :
    iprop(CRs m c ∗ CLs m c ∗ CL m c 0 0 256 ∗ CL m c 0 256 256 ∗ CL m c 1 0 256 ∗ CL m c 1 256 256 ∗ CL m c 2 0 256 ∗ CL m c 2 256 256
        ∗ CL m c 5 0 160 ∗ CL m c 3 160 160 ∗ CL m c 4 320 192)
      ⊢ (((c : Thread nD τ).loc cc0_scratch1) ↦{fullShare} landF m c) := by
  rw [comm_blocks]
  have h : (bigSep Finset.univ fun i : Fin 15 => recvPay m c i) ⊢ bigSep Finset.univ fun i : Fin 15 => cAt c (dstSet i) fullShare (landF m c) :=
    bigSep_mono fun i _ => by unfold recvPay; exact BI.Entails.refl _
  refine BI.Entails.trans ?_ h
  rw [bigSep_fin15]
  unfold CRs CLs
  show _ ⊢ (iprop(_ ∗ _) : sProp 𝕄)
  iintro ⟨⟨D0, D1, D2, D3, D4, D5, D6, D7, D8, D9, D10, D11, D12, D13, D14⟩, ⟨A0, A1, E8, A3, A4, E11, E12, E13, E14⟩, E0, E1, E2, E3, E4, E5, B0, B1, B2⟩
  ihave E10 := (left_cut m c 5 0 160 96 256 160 rfl rfl).2 $$ [$B0 $A4]
  ihave E9 := (left_cut m c 4 256 64 192 256 320 rfl rfl).2 $$ [$A3 $B2]
  ihave A0 := (left_cut m c 3 0 160 160 320 160 rfl rfl).2 $$ [$A0 $B1]
  ihave A0 := (left_cut m c 3 0 320 192 512 320 rfl rfl).2 $$ [$A0 $A1]
  ihave A0 := (left_cut m c 3 0 256 256 512 256 rfl rfl).1 $$ A0
  icases A0 with ⟨E6, E7⟩
  ihave D0 := (recv_halves m c 0 0 0 256 rfl rfl rfl).2 $$ [$E0 $D0]
  ihave D1 := (recv_halves m c 1 0 256 256 rfl rfl rfl).2 $$ [$E1 $D1]
  ihave D2 := (recv_halves m c 2 1 0 256 rfl rfl rfl).2 $$ [$E2 $D2]
  ihave D3 := (recv_halves m c 3 1 256 256 rfl rfl rfl).2 $$ [$E3 $D3]
  ihave D4 := (recv_halves m c 4 2 0 256 rfl rfl rfl).2 $$ [$E4 $D4]
  ihave D5 := (recv_halves m c 5 2 256 256 rfl rfl rfl).2 $$ [$E5 $D5]
  ihave D6 := (recv_halves m c 6 3 0 256 rfl rfl rfl).2 $$ [$E6 $D6]
  ihave D7 := (recv_halves m c 7 3 256 256 rfl rfl rfl).2 $$ [$E7 $D7]
  ihave D8 := (recv_halves m c 8 4 0 256 rfl rfl rfl).2 $$ [$E8 $D8]
  ihave D9 := (recv_halves m c 9 4 256 256 rfl rfl rfl).2 $$ [$E9 $D9]
  ihave D10 := (recv_halves m c 10 5 0 256 rfl rfl rfl).2 $$ [$E10 $D10]
  ihave D11 := (recv_halves m c 11 5 256 256 rfl rfl rfl).2 $$ [$E11 $D11]
  ihave D12 := (recv_halves m c 12 6 0 160 rfl rfl rfl).2 $$ [$E12 $D12]
  ihave D13 := (recv_halves m c 13 6 160 160 rfl rfl rfl).2 $$ [$E13 $D13]
  ihave D14 := (recv_halves m c 14 6 320 192 rfl rfl rfl).2 $$ [$E14 $D14]
  iframe

/-! ## The device's own rows -/

/-- All its own rows, together again. -/
theorem own_join :
    iprop(XS m c 0 ∗ XS m c 1 ∗ XS m c 2 ∗ XS m c 3 ∗ XS m c 4 ∗ XS m c 5 ∗ XR m c 0 ∗ XR m c 256)
      ⊢ (((c : Thread nD τ).loc cc0_scratch0) ↦{fullShare} X m c) := by
  iintro ⟨H0, H1, H2, H3, H4, H5, Ha, Hb⟩
  ihave Ha := (own_lo m c).2 $$ [$H0 $H2 $H4 $Ha]
  ihave Hb := (own_hi m c).2 $$ [$H1 $H3 $H5 $Hb]
  ihave H := (own_cut c (X m c)).2 $$ [$Ha $Hb]
  unfold xAt
  rw [rows_all]
  iexact H

omit [FloatOps F] in
theorem own_whole (f : S512x4096.Idx → Elt F .fp8e5m2) :
    (((c : Thread nD τ).loc cc0_scratch0) ↦{fullShare} f : sProp 𝕄) ⊢ xAt c (rowsX 0 512) fullShare f := by
  unfold xAt
  rw [rows_all]

/-! ## The result -/

/-- Two blocks of the result do not meet. -/
theorem out_apart : ∀ (c : Dev nD) (i j : Fin 17), i ≠ j → olo c i + olen i ≤ olo c j ∨ olo c j + olen j ≤ olo c i := by decide +kernel
/-- The rows of each device are computed in two halves, those of one device in three chunks. -/
theorem out_chunks : ∀ c d : Dev nD,
    (∃ i j : Fin 17, olo c i = 512 * d.val ∧ olen i = 256 ∧ olo c j = 512 * d.val + 256 ∧ olen j = 256)
      ∨ (olo c 14 = 512 * d.val ∧ olo c 15 = 512 * d.val + 160 ∧ olo c 16 = 512 * d.val + 320) := by
  decide +kernel

theorem out_disjoint (i j : Fin 17) (h : i ≠ j) : Disjoint (rowsO (olo c i) (olen i)) (rowsO (olo c j) (olen j)) :=
  Finset.disjoint_left.mpr fun x hx hy => by
    rw [mem_rowsO] at hx hy
    rcases out_apart c i j h with h | h <;> omega

theorem out_cover : (Finset.univ : Finset (Fin 17)).biUnion (fun j => rowsO (olo c j) (olen j)) = Finset.univ := by
  ext x
  simp only [Finset.mem_biUnion, Finset.mem_univ, true_and, iff_true, mem_rowsO]
  have h0 : (x 0).val < 4096 := (x 0).isLt
  have hd : (x 0).val / 512 < 8 := by omega
  rcases out_chunks c ⟨(x 0).val / 512, hd⟩ with ⟨i, j, e1, e2, e3, e4⟩ | ⟨e1, e2, e3⟩
  · simp only at e1 e3
    by_cases h : (x 0).val % 512 < 256
    · exact ⟨i, by omega, by omega⟩
    · exact ⟨j, by omega, by omega⟩
  · simp only at e1 e2 e3
    have l1 : olen 14 = 160 := rfl
    have l2 : olen 15 = 160 := rfl
    have l3 : olen 16 = 192 := rfl
    by_cases h : (x 0).val % 512 < 160
    · exact ⟨14, by omega, by omega⟩
    · by_cases h' : (x 0).val % 512 < 320
      · exact ⟨15, by omega, by omega⟩
      · exact ⟨16, by omega, by omega⟩

omit [FloatOps F] in
/-- The buffer of the result's blocks, cut into them, -/
theorem ov_blocks (f : S4096x1024.Idx → Elt F .f32) :
    (((c : Thread nD τ).loc cc0_scratch4) ↦{fullShare} f : sProp 𝕄) = bigSep Finset.univ fun j : Fin 17 => oAt c (rowsO (olo c j) (olen j)) f := by
  unfold oAt
  exact Ring.pointsTo_blocks (ℓ := (c : Thread nD τ).loc cc0_scratch4) (fun j => rowsO (olo c j) (olen j)) (out_disjoint c) (out_cover c) f
omit [FloatOps F] in
/-- and the result. -/
theorem res_blocks (f : S4096x1024.Idx → Elt F .f32) :
    (((c : Thread nD τ).loc main_v1) ↦{fullShare} f : sProp 𝕄) = bigSep Finset.univ fun j : Fin 17 => rAt c (rowsO (olo c j) (olen j)) f := by
  unfold rAt
  exact Ring.pointsTo_blocks (ℓ := (c : Thread nD τ).loc main_v1) (fun j => rowsO (olo c j) (olen j)) (out_disjoint c) (out_cover c) f

/-- What the blocks need. -/
theorem ot_all (f g : S4096x1024.Idx → Elt F .f32) :
    iprop(bigSep Finset.univ (fun j => LK (F := F) c (oS j)) ∗ (((c : Thread nD τ).loc cc0_scratch4) ↦{fullShare} f)
        ∗ (((c : Thread nD τ).loc main_v1) ↦{fullShare} g)) ⊢ bigSep Finset.univ (OT (F := F) c) := by
  rw [ov_blocks, res_blocks, ← bigSep_sep', ← bigSep_sep']
  refine bigSep_mono fun j _ => ?_
  unfold OT
  show _ ⊢ (iprop(_ ∗ _) : sProp 𝕄)
  iintro ⟨H1, H2, H3⟩
  isplitl [H1]; · iexact H1
  isplitl [H2]; · iexists f; iexact H2
  iexists g
  iexact H3

/-- What they leave. -/
theorem og_all :
    bigSep Finset.univ (OG m c) ⊢ iprop((((c : Thread nD τ).loc main_v1) ↦{fullShare} outF m c) ∗ (((c : Thread nD τ).loc cc0_scratch4) ↦{fullShare} outF m c)
      ∗ bigSep Finset.univ fun j => SV (F := F) c (oS j)) := by
  rw [ov_blocks, res_blocks, ← bigSep_sep', ← bigSep_sep']
  refine bigSep_mono fun j _ => ?_
  unfold OG outPay
  show _ ⊢ (iprop(_ ∗ _) : sProp 𝕄)
  iintro ⟨⟨H1, H2⟩, H3⟩
  iframe

/-- The operand `w`, all of it: the columns that the device reads, and the others. -/
theorem w_cut : (((c : Thread nD τ).loc main_arg1) ↦{fullShare} (m ((c : Thread nD τ).loc main_arg1)) : sProp 𝕄)
    ⊣⊢ iprop(hAt m c (colsW c) ∗ hAt m c (Finset.univ \ colsW c)) := by
  unfold hAt
  exact pointsTo_split_subset (Finset.subset_univ _)

end Cert.KernelProof
-- ==== Proof.Point.lean ====
/-
# The body as the launch runs it

What a device holds when the body starts and when it has ended, and that the body takes it from the one to the other.
-/
module

public import proofs.«01_k».proof.Proof.Ends
public import proofs.«01_k».proof.Proof.Gen.Kernel.Launch
public import proofs.«01_k».proof.Proof.Gen.Kernel.Points
public import Idealize.ShloMosaic.Lib.Pipeline.ValueKit

@[expose] public section

set_option maxRecDepth 65536

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, by kind -/

/-- A cell by its kind: a source, a landing, the columns of `w`, a block of the result, the barrier. -/
def cellOfKind : Fin 15 ⊕ Fin 15 ⊕ Unit ⊕ Fin 17 ⊕ Unit → Fin 49
  | .inl i => kS i | .inr (.inl i) => kR i | .inr (.inr (.inl _)) => 30 | .inr (.inr (.inr (.inl j))) => kO j | .inr (.inr (.inr (.inr _))) => 48

theorem cellOfKind_bijective : Function.Bijective cellOfKind := by
  have h : ∀ k : Fin 49, ∃ a, cellOfKind a = k := by decide +kernel
  exact (Fintype.bijective_iff_surjective_and_card _).mpr ⟨h, by simp⟩

omit [FloatOps F] in
/-- A conjunction over the cells of a device, kind by kind. -/
theorem bigSep_kinds (Φ : Fin 49 → sProp 𝕄) :
    bigSep Finset.univ Φ = iprop(bigSep Finset.univ (fun i => Φ (kS i)) ∗ bigSep Finset.univ (fun i => Φ (kR i)) ∗ Φ 30
      ∗ bigSep Finset.univ (fun j => Φ (kO j)) ∗ Φ 48) := by
  rw [bigSep_univ_equiv (Equiv.ofBijective _ cellOfKind_bijective), bigSep_univ_sum, bigSep_univ_sum, bigSep_univ_sum, bigSep_univ_sum,
    show (Finset.univ : Finset Unit) = {()} from rfl, bigSep_singleton, bigSep_singleton]
  rfl

theorem kcell_S (c : Dev nD) (i : Fin 15) : kcell (c, kS i) = dC c (sS i) := by unfold kcell; rw [csem_S]
theorem kcell_R (c : Dev nD) (i : Fin 15) : kcell (c, kR i) = dC c (rS i) := by unfold kcell; rw [csem_R]
theorem kcell_W (c : Dev nD) : kcell (c, 30) = dC c wS := by unfold kcell; rw [csem_W]
theorem kcell_O (c : Dev nD) (j : Fin 17) : kcell (c, kO j) = dC c (oS j) := by unfold kcell; rw [csem_O]
theorem kcell_B (c : Dev nD) : kcell (c, 48) = barC c := by unfold kcell; rw [csem_B]

/-! ## What a device starts with -/

/-- The tokens of the duties that device `c` pays. -/
def payToks (c : Dev nD) : sProp 𝕄 :=
  iprop((dutyTok ER (barC (flip 1 c)) 0 0 ∗ dutyTok ER (barC (flip 3 c)) 0 1 ∗ dutyTok ER (barC (flip 4 c)) 0 2)
    ∗ bigSep Finset.univ (fun i => dutyTok ER (dC c (sS i)) 0 0) ∗ bigSep Finset.univ (fun i => dutyTok ER (dC (flip (mask i) c) (rS i)) 0 0)
    ∗ dutyTok ER (dC c wS) 0 0 ∗ bigSep Finset.univ (fun j => dutyTok ER (dC c (oS j)) 0 0))
/-- Its positions at its own cells, and those tokens. -/
def linear (c : Dev nD) : sProp 𝕄 := iprop((bigSep Finset.univ fun k : Fin 49 => atPos ER (kcell (c, k)) 0 ∅ 0) ∗ payToks c)

/-- The credit of its barrier and of what is to land at it. -/
def creds (c : Dev nD) : sProp 𝕄 :=
  iprop(cred (tallyAt (barC c) () 3) ∗ bigSep Finset.univ fun i => cred (tallyAt (dC c (rS i)) () (dmaAmt (rS i).val)))

/-- The operand `w` and the result, whole. -/
def arrays (c : Dev nD) (f : S4096x1024.Idx → Elt F .f32) : sProp 𝕄 :=
  iprop((((c : Thread nD τ).loc main_arg1) ↦{fullShare} (m ((c : Thread nD τ).loc main_arg1))) ∗ (((c : Thread nD τ).loc main_v1) ↦{fullShare} f))

/-- All that a device starts with, but its scratch buffers. -/
def start (c : Dev nD) : sProp 𝕄 :=
  iprop((∃ K, recs m K) ∗ linear c ∗ creds c ∗ arrays m c (m ((c : Thread nD τ).loc main_v1)))

/-- The scratch buffers, with any contents. -/
def scr (c : Dev nD) : sProp 𝕄 :=
  iprop((∃ f : S512x4096.Idx → Elt F .fp8e5m2, ((c : Thread nD τ).loc cc0_scratch0) ↦{fullShare} f)
    ∗ (∃ f : S7x512x4096.Idx → Elt F .fp8e5m2, ((c : Thread nD τ).loc cc0_scratch1) ↦{fullShare} f)
    ∗ (∃ f : S4096x1024.Idx → Elt F .fp8e5m2, ((c : Thread nD τ).loc cc0_scratch2) ↦{fullShare} f)
    ∗ (∃ f : S4096x1024.Idx → Elt F .fp8e5m2, ((c : Thread nD τ).loc cc0_scratch3) ↦{fullShare} f)
    ∗ (∃ f : S4096x1024.Idx → Elt F .f32, ((c : Thread nD τ).loc cc0_scratch4) ↦{fullShare} f))

/-- The kernel's semaphores, at zero. -/
def zeros (c : Dev nD) : sProp 𝕄 :=
  iprop(bigSep Finset.univ (fun i => SV c (sS i)) ∗ bigSep Finset.univ (fun i => SV c (rS i)) ∗ SV c wS ∗ bigSep Finset.univ (fun j => SV c (oS j)))

/-- Before the body, -/
def Φ₀ (c : Dev nD) : sProp 𝕄 := iprop(start m c ∗ scr c)
/-- and after it: `w` as it was, the result computed, all semaphores at zero. -/
def Φ₁ (c : Dev nD) : sProp 𝕄 := iprop(arrays m c (outF m c) ∗ semVal (barC c) 0 ∗ zeros c ∗ scr c)

/-! ## What the body takes, from that -/

/-- The transfers' positions and tokens, and the cells' positions that the waits take. -/
theorem positions (c : Dev nD) :
    linear (F := F) c ⊢ iprop(bigSep Finset.univ (SK (F := F) c) ∗ (bigSep Finset.univ fun i => atPos ER (dC c (rS i)) 0 ∅ 0) ∗ LK c wS
      ∗ bigSep Finset.univ (fun j => LK (F := F) c (oS j))
      ∗ atPos ER (barC c) 0 ∅ 0 ∗ dutyTok ER (barC (flip 1 c)) 0 0 ∗ dutyTok ER (barC (flip 3 c)) 0 1 ∗ dutyTok ER (barC (flip 4 c)) 0 2) := by
  have h1 : bigSep Finset.univ (SK (F := F) c) = iprop(bigSep Finset.univ (fun i => dutyTok ER (dC c (sS i)) 0 0)
      ∗ bigSep Finset.univ (fun i => dutyTok ER (dC (flip (mask i) c) (rS i)) 0 0) ∗ bigSep Finset.univ (fun i => atPos ER (dC c (sS i)) 0 ∅ 0)) := by
    unfold SK
    rw [bigSep_sep', bigSep_sep']
  have h2 : bigSep Finset.univ (fun j => LK (F := F) c (oS j)) = iprop(bigSep Finset.univ (fun j => dutyTok ER (dC c (oS j)) 0 0)
      ∗ bigSep Finset.univ (fun j => atPos ER (dC c (oS j)) 0 ∅ 0)) := by
    unfold LK
    rw [bigSep_sep']
  unfold linear payToks
  rw [bigSep_kinds]
  simp only [kcell_S, kcell_R, kcell_W, kcell_O, kcell_B]
  rw [h1, h2]
  unfold LK
  iintro ⟨⟨A1, A2, A3, A4, A5⟩, ⟨B1, B2, B3⟩, T1, T2, T3, T4⟩
  iframe

/-- The waits for what lands. -/
theorem recv_waits (c : Dev nD) :
    iprop((bigSep Finset.univ fun i => cred (tallyAt (dC c (rS i)) () (dmaAmt (rS i).val))) ∗ (bigSep Finset.univ fun i => atPos ER (dC c (rS i)) 0 ∅ 0))
      ⊢ bigSep Finset.univ (fun i => WK (F := F) c (rS i)) := by
  unfold WK
  rw [bigSep_sep']

/-- All that the body takes; the rest of `w` stays aside. -/
theorem enter (c : Dev nD) :
    iprop(linear c ∗ creds c ∗ arrays m c (m ((c : Thread nD τ).loc main_v1)) ∗ scr c ∗ (∃ W, owes (c : Thread nD τ) (O₀ c) W) ∗ GR m c ∗ SR m c)
      ⊢ iprop(Pre0 m c ∗ hAt m c (Finset.univ \ colsW c)) := by
  unfold creds arrays scr Pre0 BK
  iintro ⟨HL, ⟨Hcb, Hcr⟩, ⟨Hw, Hr⟩, ⟨⟨%f0, X0⟩, ⟨%f1, X1⟩, ⟨%f2, X2⟩, ⟨%f3, X3⟩, ⟨%f4, X4⟩⟩, HO, Hg, Hs⟩
  ihave HL' := (positions c) $$ HL
  icases HL' with ⟨HSK, HaR, HLw, HLo, HaB, Hb1, Hb2, Hb3⟩
  ihave HWR := (recv_waits c) $$ [$Hcr $HaR]
  ihave Hw' := (w_cut m c).1 $$ Hw
  icases Hw' with ⟨Hwc, Hwr⟩
  ihave X0 := (own_whole c f0) $$ X0
  ihave X1 := (comm_cut c f1) $$ X1
  icases X1 with ⟨XA, XB, XC⟩
  ihave HOT := (ot_all c f4 (m ((c : Thread nD τ).loc main_v1))) $$ [$HLo $X4 $Hr]
  iframe HO Hg Hs HLw Hwc HSK HWR HOT XA XB XC Hb1 Hb2 Hb3 Hcb HaB Hwr
  isplitl [X3]
  · unfold tAt; iexists f3; iexact X3
  isplitl [X0]
  · iexists f0; iexact X0
  unfold wAt; iexists f2; iexact X2

/-- All that it leaves. -/
theorem leave (c : Dev nD) :
    iprop(Done m c ∗ hAt m c (Finset.univ \ colsW c)) ⊢ iprop(Φ₁ m c ∗ OW c [] ∗ GR m c ∗ SR m c) := by
  have hS : bigSep Finset.univ (SG m c) = iprop(bigSep Finset.univ (sendPay m c) ∗ bigSep Finset.univ (fun i => SV (F := F) c (sS i))) := by
    unfold SG
    rw [bigSep_sep']
  unfold Done
  rw [hS, bigSep_fin15 (sendPay m c),
    send_own m c 0 (by decide), send_own m c 1 (by decide), send_own m c 2 (by decide), send_own m c 3 (by decide), send_own m c 4 (by decide),
    send_own m c 5 (by decide),
    send_pass m c 6 0 0 256 (by decide) rfl rfl rfl, send_pass m c 7 0 256 256 (by decide) rfl rfl rfl,
    send_pass m c 8 1 0 256 (by decide) rfl rfl rfl, send_pass m c 9 1 256 256 (by decide) rfl rfl rfl,
    send_pass m c 10 2 0 256 (by decide) rfl rfl rfl, send_pass m c 11 2 256 256 (by decide) rfl rfl rfl,
    send_pass m c 12 5 0 160 (by decide) rfl rfl rfl, send_pass m c 13 3 160 160 (by decide) rfl rfl rfl,
    send_pass m c 14 4 320 192 (by decide) rfl rfl rfl]
  iintro ⟨⟨HO, Hg, Hs, Ht, Hh, Hw, Zw, Zb, Hr0, Hr1, Zr, ⟨⟨P0, P1, P2, P3, P4, P5, P6, P7, P8, P9, P10, P11, P12, P13, P14⟩, Zs⟩, HG, HD, HE⟩, Hrest⟩
  ihave Hc := (comm_join m c) $$ [$HD $HE $P6 $P7 $P8 $P9 $P10 $P11 $P12 $P13 $P14]
  ihave Hx := (own_join m c) $$ [$P0 $P1 $P2 $P3 $P4 $P5 $Hr0 $Hr1]
  ihave HG' := (og_all m c) $$ HG
  icases HG' with ⟨Hres, Hov, Zo⟩
  ihave Hwhole := (w_cut m c).2 $$ [$Hh $Hrest]
  unfold Φ₁ arrays zeros scr
  iframe HO Hg Hs Hwhole Hres Zb Zs Zr Zw Zo
  isplitl [Hx]; · iexists _; iexact Hx
  isplitl [Hc]; · iexists _; iexact Hc
  isplitl [Hw]; · unfold WR wAt; iexists _; iexact Hw
  isplitl [Ht]; · unfold tAt; iexists _; iexact Ht
  iexists _; iexact Hov

/-! ## The obligation -/

/-- The proof's data: the windows keep what they were fetched with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => m ((c : Thread nD τ).loc main_arg2)
    | ⟨2, _⟩ => m ((c : Thread nD τ).loc main_arg3)
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Every window is a whole array: its one block is the array. -/
theorem block_0 (c : Dev nD) : (dats m ρ 0 c).blockOf (0 : Fin 3) t0_0 = X m c := by
  funext i
  show m ((c : Thread nD τ).loc main_arg0) (((cfg0.win (0 : Fin 3)).blk t0_0).view.emb i) = m ((c : Thread nD τ).loc main_arg0) i
  blk_ext [show (win0_0.index t0_0 0 : ℕ) = 0 from by decide, show (win0_0.index t0_0 1 : ℕ) = 0 from by decide]
theorem block_1 (c : Dev nD) : (dats m ρ 0 c).blockOf (1 : Fin 3) t0_0 = m ((c : Thread nD τ).loc main_arg2) := by
  funext i
  show m ((c : Thread nD τ).loc main_arg2) (((cfg0.win (1 : Fin 3)).blk t0_0).view.emb i) = m ((c : Thread nD τ).loc main_arg2) i
  blk_ext [show (win0_1.index t0_0 0 : ℕ) = 0 from by decide]
theorem block_2 (c : Dev nD) : (dats m ρ 0 c).blockOf (2 : Fin 3) t0_0 = m ((c : Thread nD τ).loc main_arg3) := by
  funext i
  show m ((c : Thread nD τ).loc main_arg3) (((cfg0.win (2 : Fin 3)).blk t0_0).view.emb i) = m ((c : Thread nD τ).loc main_arg3) i
  blk_ext [show (win0_2.index t0_0 0 : ℕ) = 0 from by decide]

theorem before_0 (c : Dev nD) (d) : (dats m ρ 0 c).before (0 : Fin 3) t0_0 d = X m c := by
  unfold Dat.before; rw [if_pos (fetch0_0 t0_0)]; exact block_0 m ρ c
theorem before_1 (c : Dev nD) (d) : (dats m ρ 0 c).before (1 : Fin 3) t0_0 d = m ((c : Thread nD τ).loc main_arg2) := by
  unfold Dat.before; rw [if_pos (fetch0_1 t0_0)]; exact block_1 m ρ c
theorem before_2 (c : Dev nD) (d) : (dats m ρ 0 c).before (2 : Fin 3) t0_0 d = m ((c : Thread nD τ).loc main_arg3) := by
  unfold Dat.before; rw [if_pos (fetch0_2 t0_0)]; exact block_2 m ρ c

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (X m c) ∗ stg c cc0_stg1_0 (m ((c : Thread nD τ).loc main_arg2))
    ∗ stg c cc0_stg2_0 (m ((c : Thread nD τ).loc main_arg3)))

set_option maxHeartbeats 800000 in
/-- The body, from what the launch gives to what it asks. -/
theorem sound_body (c : Dev nD) :
    bodyPre m ρ c ⊢ wp frame (wpE (defs₀ (F := F)) 𝒱₀ (c : Thread nD τ) none) Set.univ
      (cc0_body gM (Memref.isWhole_whole _) hM (Memref.isWhole_whole _) aM (Memref.isWhole_whole _) bM (Memref.isWhole_whole _) rM
                (Memref.isWhole_whole _) xM (Memref.isWhole_whole _) cM (Memref.isWhole_whole _) wM (Memref.isWhole_whole _) tM (Memref.isWhole_whole _)
                oM (Memref.isWhole_whole _) cc0_scratch5 cc0_scratch6 cc0_scratch7 cc0_scratch8) (fun _ => bodyPost m ρ c) := by
  unfold bodyPre Φ₀ start
  iintro ⟨⟨⟨⟨%K, #HR⟩, HL, HC, HA⟩, HS⟩, Ho, ⟨%d0, %g0, %e0, H0⟩, ⟨%d1, %g1, %e1, H1⟩, ⟨%d2, %g2, %e2, H2⟩⟩
  rw [before_0] at e0
  rw [before_1] at e1
  rw [before_2] at e2
  subst e0 e1 e2
  unfold Dat.owesAt Pipeline.owesWithin
  icases Ho with ⟨%W, %hW, HO⟩
  rw [show (dats m ρ 0 c).owed t0_0.castSucc = O₀ c from rfl]
  ihave Hin := (enter m c) $$ [HL HC HA HS HO H0 H1 H2]
  · iframe HL HC HA HS
    isplitl [HO]; · iexists W; iexact HO
    unfold GR SR
    iframe
  icases Hin with ⟨Hpre, Hrest⟩
  iapply (body m K c) $$ [$HR $Hpre]
  iintro HD
  ihave Hout := (leave m c) $$ [$HD $Hrest]
  icases Hout with ⟨HΦ, HO, Hg, Hs⟩
  unfold bodyPost Dat.owesAt Pipeline.owesWithin OW GR SR
  icases HO with ⟨%W', HO⟩
  icases Hs with ⟨Hs1, Hs2⟩
  rw [show (dats m ρ 0 c).owed t0_0.succ = 0 from rfl]
  isplitl [HΦ]; · iexact HΦ
  isplitl [HO]
  · iexists W'
    isplitr; · ipureintro; exact fun _ _ => Or.inl trivial
    iexact HO
  isplitl [Hg]
  · iexists _; isplitr; · (ipureintro; rfl)
    iexact Hg
  isplitl [Hs1]
  · iexists _; isplitr; · (ipureintro; rfl)
    iexact Hs1
  iexists _; isplitr; · (ipureintro; rfl)
  iexact Hs2

/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelProof
-- ==== Proof.Launch.lean ====
/-
# The launch

The whole mesh: what the launch mints, how it is dealt to the devices, and the run of the program.
-/
module

public import proofs.«01_k».proof.Proof.Point
public import Idealize.ShloMosaic.Lib.Pipeline.CollectiveSegs

@[expose] public section

set_option maxRecDepth 65536

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The kernel's own semaphores by kind: sources, landings, the columns of `w`, blocks of the result. -/
def osem : Fin 15 ⊕ Fin 15 ⊕ Unit ⊕ Fin 17 → SemLoc sig
  | .inl i => .dma (sS i) | .inr (.inl i) => .dma (rS i) | .inr (.inr (.inl _)) => .dma wS | .inr (.inr (.inr j)) => .dma (oS j)

theorem ownSemFacts : Pipeline.OwnSemFacts cfg0.spec osem := by decide +kernel

theorem share_eq (c : Dev nD) (w : Fin cfg0.W) : (dats m ρ 0 c).share w = fullShare := by unfold Pipeline.Dat.share; split <;> rfl

theorem csem_injective : Function.Injective csem := by
  have h : ∀ k k' : Fin 49, csem k = csem k' → k = k' := by decide +kernel
  exact fun k k' => h k k'

theorem kcell_injective : Function.Injective kcell := by
  rintro ⟨c, k⟩ ⟨c', k'⟩ h
  have h1 : c = c' := by have := congrArg (fun g : GSem nD τ sig => g.1.1) h; exact this
  have h2 : csem k = csem k' := congrArg Prod.snd h
  rw [h1, csem_injective h2]

/-- All cells of the mesh. -/
def allCells : Finset (GSem nD τ sig) := Finset.univ.map ⟨kcell, kcell_injective⟩

/-- The duties of a device's cells: the first of every cell, and two more of the barrier. -/
def tokOf (x : Dev nD × (Fin 49 ⊕ Fin 2)) : GSem nD τ sig × ℕ × Fin 3 := match x.2 with
  | .inl k => (kcell (x.1, k), 0, 0)
  | .inr e => (barC x.1, 0, e.succ)

theorem tokOf_injective : Function.Injective tokOf := by
  rintro ⟨c, a⟩ ⟨c', a'⟩ h
  have h1 : c = c' := by
    have := congrArg (fun x : GSem nD τ sig × ℕ × Fin 3 => x.1.1.1) h
    rcases a with k | e <;> rcases a' with k' | e' <;> exact this
  subst h1
  have h2 := congrArg (fun x : GSem nD τ sig × ℕ × Fin 3 => x.2.2) h
  rcases a with k | e <;> rcases a' with k' | e'
  · have h3 := kcell_injective (congrArg Prod.fst h)
    rw [(Prod.mk.inj h3).2]
  · exact absurd h2 (Fin.succ_ne_zero e').symm
  · exact absurd h2 (Fin.succ_ne_zero e)
  · rw [Fin.succ_injective 2 h2]

def allToks : Finset (GSem nD τ sig × ℕ × Fin 3) := Finset.univ.map ⟨tokOf, tokOf_injective⟩

/-- What the launch mints. -/
def u₀ : UU := (initOf (Pipeline.cells cfgs cellOf_inj) (Pipeline.launchToks cfgs cellOf_inj), initOf allCells allToks)

/-- The tokens of the duties of a device's own cells. -/
def toks (c : Dev nD) : sProp 𝕄 :=
  iprop((bigSep Finset.univ fun k : Fin 49 => dutyTok ER (kcell (c, k)) 0 0) ∗ dutyTok ER (barC c) 0 1 ∗ dutyTok ER (barC c) 0 2)

/-- What is minted for device `c`, -/
def G (c : Dev nD) : sProp 𝕄 :=
  iprop((bigSep Finset.univ fun k : Fin 49 => roundState ER (Rd m) (kcell (c, k)) 0)
    ∗ (bigSep Finset.univ fun k : Fin 49 => iprop(atPos ER (kcell (c, k)) 0 ∅ 0 ∗ reached ER (kcell (c, k)) 0)) ∗ toks c)

/-- the invariants of all cells, -/
def invs (K : Dev nD × Fin 49 → ℕ) : sProp 𝕄 :=
  iprop((bigSep Finset.univ fun ck => cellInv ER (Rd m) (K ck) (kcell ck)) ∗ bigSep Finset.univ fun ck => reached ER (kcell ck) 0)

instance invs_persistent (K) : BI.Persistent (invs (F := F) m K) := by unfold invs; infer_instance

/-- and what is dealt to it. -/
def G' (c : Dev nD) : sProp 𝕄 := iprop(∃ K, invs m K ∗ linear c)

/-- The minted element, device by device. -/
theorem fund : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Fin 49 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum]
    refine congrArg (fun P : sProp 𝕄 => iprop(_ ∗ P)) ?_
    exact bigSep_univ_eq_bigSepL [0, 1] (by decide) (by decide) _
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero; -/
theorem ownSems0_eq (c : Dev nD) :
    (Pipeline.ownSems0 (Ix := Unit) (Name := ℕ) (U := UU) (Lvl := ℕ) (Val := Elt F) (τ := τ) osem c : sProp 𝕄) = zeros c := by
  unfold Pipeline.ownSems0 zeros
  rw [bigSep_univ_sum, bigSep_univ_sum, bigSep_univ_sum, show (Finset.univ : Finset Unit) = {()} from rfl, bigSep_singleton]
  rfl

/-- and the barrier semaphore, which outlives the body. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- All of a device's cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 49 => semVal (kcell (c, k)) 0 : sProp 𝕄) := by
  rw [ownSems0_eq, unscopedSems0_eq, bigSep_kinds]
  simp only [kcell_S, kcell_R, kcell_W, kcell_O, kcell_B]
  unfold zeros SV
  iintro ⟨⟨H1, H2, H3, H4⟩, HB⟩
  iframe

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 49 => semVal (kcell (c, k)) 0) ∗ bigSep Finset.univ fun k : Fin 49 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem mask_lt (i : Fin 15) : mask i < 8 := by revert i; decide

/-- The tokens dealt to the devices that pay: each token of a barrier or of a landing to the neighbour across its dimension. -/
theorem toks_around : (bigSep Finset.univ fun c : Dev nD => (toks c : sProp 𝕄)) ⊢ bigSep Finset.univ fun c : Dev nD => payToks c := by
  have hR : (bigSep Finset.univ fun c : Dev nD => bigSep Finset.univ fun i : Fin 15 => (dutyTok ER (dC (flip (mask i) c) (rS i)) 0 0 : sProp 𝕄))
      = bigSep Finset.univ fun c : Dev nD => bigSep Finset.univ fun i : Fin 15 => (dutyTok ER (dC c (rS i)) 0 0 : sProp 𝕄) := by
    rw [bigSep_univ_comm, bigSep_univ_comm (fun (c : Dev nD) (i : Fin 15) => (dutyTok ER (dC c (rS i)) 0 0 : sProp 𝕄))]
    exact bigSep_congr fun i _ => (bigSep_univ_equiv (flipEquiv (mask i) (mask_lt i)) (fun c : Dev nD => (dutyTok ER (dC c (rS i)) 0 0 : sProp 𝕄))).symm
  have hB (k : ℕ) (h : k < 8) (d : Fin 3) : (bigSep Finset.univ fun c : Dev nD => (dutyTok ER (barC (flip k c)) 0 d : sProp 𝕄))
      = bigSep Finset.univ fun c : Dev nD => (dutyTok ER (barC c) 0 d : sProp 𝕄) :=
    (bigSep_univ_equiv (flipEquiv k h) (fun c : Dev nD => (dutyTok ER (barC c) 0 d : sProp 𝕄))).symm
  unfold toks payToks
  simp only [bigSep_kinds, kcell_S, kcell_R, kcell_W, kcell_O, kcell_B]
  simp only [bigSep_sep']
  rw [hR, hB 1 (by decide), hB 3 (by decide), hB 4 (by decide)]
  iintro ⟨⟨H1, H2, H3, H4, H5⟩, H6, H7⟩
  iframe

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device gets all invariants, its positions and its tokens. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 49 => iprop(∃ κ : ℕ, cellInv ER (Rd m) κ (kcell ck))),
    bigSep_congr (s := Finset.univ) (fun (c : Dev nD) _ => bigSep_sep' Finset.univ (fun k : Fin 49 => (atPos ER (kcell (c, k)) 0 ∅ 0 : sProp 𝕄)) (fun k => reached ER (kcell (c, k)) 0)),
    bigSep_sep', ← bigSep_univ_prod (fun ck : Dev nD × Fin 49 => (reached ER (kcell ck) 0 : sProp 𝕄))]
  iintro ⟨HI, ⟨Hat, #HR⟩, Htok⟩
  ihave HK := (BI.bigSep_exists_pi Finset.univ (fun (ck : Dev nD × Fin 49) (κ : ℕ) => (cellInv ER (Rd m) κ (kcell ck) : sProp 𝕄))) $$ HI
  icases HK with ⟨%K, #HI⟩
  ihave Htk := (toks_around (F := F)) $$ Htok
  iapply (bigSep_with_persistent (R := invs m K) (Φ := linear) fun c _ => show iprop(invs m K ∗ linear c) ⊢ G' m c from by
    unfold G'
    iintro ⟨#H, Hl⟩
    iexists K
    isplitr; · iexact H
    iexact Hl)
  isplitr
  · unfold invs; isplitl; · iexact HI
    iexact HR
  · unfold linear
    rw [bigSep_sep']
    isplitl [Hat]; · iexact Hat
    iexact Htk

/-- All cells of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit minted at launch -/

theorem flip_eq_iff {k : ℕ} (h : k < 8) {c d : Dev nD} : c = flip k d ↔ d = flip k c :=
  ⟨fun e => by rw [e, flip_flip h], fun e => by rw [e, flip_flip h]⟩

theorem bar_eq_iff {k : ℕ} (h : k < 8) {c d : Dev nD} : barC c = barC (flip k d) ↔ d = flip k c :=
  ⟨fun e => (flip_eq_iff h).1 (congrArg (fun g : GSem nD τ sig => g.1.1) e), fun e => by rw [← (flip_eq_iff h).2 e]⟩

theorem rS_injective : Function.Injective rS := by
  have h : ∀ i j : Fin 15, rS i = rS j → i = j := by decide
  exact fun i j => h i j

theorem landing_eq_iff {c d : Dev nD} {i j : Fin 15} : dC c (rS i) = dC (flip (mask j) d) (rS j) ↔ i = j ∧ d = flip (mask i) c := by
  constructor
  · intro e
    have hs : rS i = rS j := by have := congrArg Prod.snd e; exact SemLoc.dma.inj this
    have hij := rS_injective hs
    subst hij
    exact ⟨rfl, (flip_eq_iff (mask_lt i)).1 (congrArg (fun g : GSem nD τ sig => g.1.1) e)⟩
  · rintro ⟨rfl, e⟩
    rw [← (flip_eq_iff (mask_lt i)).2 e]

theorem bar_ne_landing (c d : Dev nD) (q : DmaSem sig) : barC c ≠ dC d q := fun e => by
  have := congrArg Prod.snd e
  cases this

theorem owedT_bar (d c : Dev nD) (l : List (Fin 15)) : owedT d l (barC c) () = 0 := by
  by_contra h
  obtain ⟨i, -, e⟩ := owedT_pos (Nat.pos_of_ne_zero h)
  exact bar_ne_landing _ _ _ e

/-- A transfer of the list is owed to the device across its dimension. -/
theorem owedT_landing (d c : Dev nD) (i : Fin 15) (l : List (Fin 15)) (hl : l.Nodup) :
    owedT d l (dC c (rS i)) () = if i ∈ l ∧ d = flip (mask i) c then rowsCredit (tlen i) else 0 := by
  induction l with
  | nil => simp [owedT]
  | cons j l ih =>
    have hj := List.nodup_cons.mp hl
    rw [owedT, Pi.add_apply, Finsupp.add_apply, tallyAt_apply, ih hj.2]
    by_cases hij : i = j
    · subst hij
      rw [if_neg (fun h => hj.1 h.1), Nat.zero_add]
      by_cases hd : d = flip (mask i) c
      · rw [if_pos ⟨landing_eq_iff.2 ⟨rfl, hd⟩, rfl⟩, if_pos ⟨List.mem_cons_self, hd⟩]
      · rw [if_neg (fun h => hd (landing_eq_iff.1 h.1).2), if_neg (fun h => hd h.2)]
    · rw [if_neg (fun h : dC c (rS i) = dC (flip (mask j) d) (rS j) ∧ _ => hij (landing_eq_iff.1 h.1).1), Nat.add_zero]
      simp [List.mem_cons, hij]

/-- What device `d` owes to the barrier of `c`, -/
theorem owed_bar (d c : Dev nD) :
    O₀ d (barC c) () = (if d = flip 4 c then 1 else 0) + (if d = flip 3 c then 1 else 0) + (if d = flip 1 c then 1 else 0) := by
  unfold O₀
  simp only [Pi.add_apply, Finsupp.add_apply, tallyAt_apply, owedT_bar, Nat.zero_add, and_true,
    bar_eq_iff (show 4 < 8 by decide), bar_eq_iff (show 3 < 8 by decide), bar_eq_iff (show 1 < 8 by decide)]

/-- and to its landings. -/
theorem owed_landing (d c : Dev nD) (i : Fin 15) : O₀ d (dC c (rS i)) () = if d = flip (mask i) c then rowsCredit (tlen i) else 0 := by
  have hm : i ∈ order := by revert i; decide
  unfold O₀
  rw [Pi.add_apply, Finsupp.add_apply, Pi.add_apply, Finsupp.add_apply, Pi.add_apply, Finsupp.add_apply,
    tallyAt_ne_cell (fun h => bar_ne_landing _ _ _ h.symm), tallyAt_ne_cell (fun h => bar_ne_landing _ _ _ h.symm),
    tallyAt_ne_cell (fun h => bar_ne_landing _ _ _ h.symm), owedT_landing d c i order (by decide)]
  simp only [Finsupp.zero_apply, Nat.add_zero, hm, true_and]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (flip 4 c) fun _ => 1, Finset.sum_ite_eq' Finset.univ (flip 3 c) fun _ => 1,
    Finset.sum_ite_eq' Finset.univ (flip 1 c) fun _ => 1, if_pos (Finset.mem_univ _), if_pos (Finset.mem_univ _), if_pos (Finset.mem_univ _)]

theorem launch_landing (c : Dev nD) (i : Fin 15) :
    tallyOn (dC c (rS i)) (launchCredit (Pipeline.owing O₀) 0 (dC c (rS i))) = (tallyAt (dC c (rS i)) () (dmaAmt (rS i).val) : CellTallies nD τ sig Unit) := by
  unfold tallyAt; refine congrArg _ (Finsupp.ext fun u => ?_); cases u
  rw [Pipeline.launchCredit_owing, Finsupp.single_eq_same, Finset.sum_congr rfl fun d _ => owed_landing d c i,
    Finset.sum_ite_eq' Finset.univ (flip (mask i) c) fun _ => rowsCredit (tlen i), if_pos (Finset.mem_univ _), dmaAmt_recv]

/-- The credit of a device: three units at its barrier, and each transfer's at its landing. -/
theorem credit (c : Dev nD) : (Pipeline.launchCred O₀ c : sProp 𝕄) ⊢ creds c := by
  unfold Pipeline.launchCred creds
  rw [bigSep_univ_at _ (SemLoc.reg barS)]
  refine (sep_mono_right ((BI.bigSep_subset (t := Finset.univ.map ⟨fun i : Fin 15 => SemLoc.dma (rS i), fun i j h => rS_injective (SemLoc.dma.inj h)⟩)
    fun x hx => ?_))).trans ?_
  · obtain ⟨i, -, rfl⟩ := Finset.mem_map.mp hx
    exact Finset.mem_erase.mpr ⟨fun h => (nomatch h), Finset.mem_univ _⟩
  · rw [BI.bigSep_map]
    refine Entails.of_eq ?_
    rw [← launch_bar]
    refine congrArg (fun P : sProp 𝕄 => iprop(_ ∗ P)) (bigSep_congr fun i _ => ?_)
    rw [← launch_landing]
    rfl

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hw, Hr⟩, #Hlev, Hcr, -, HG⟩
  ihave Hc := (credit (F := F) c) $$ Hcr
  unfold G' invs
  icases HG with ⟨%K, ⟨#HI, #HR⟩, HL⟩
  imodintro
  unfold start arrays
  isplitl
  · isplitr
    · iexists K
      unfold recs
      isplitr; · iexact HI
      isplitr; · iexact HR
      iexact Hlev
    iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N)
      ⊢ iprop((unscopedSems0 c ∗ arrays m c (outF m c)) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scr
  iintro ⟨HA, HB, HZ, HS⟩
  isplitl [HA HB]
  · isplitl [HB] <;> iassumption
  isplitl [HZ] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read at the end, beside the windows: the barriers, `w` and the result. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ s.mem ((c : Thread nD τ).loc main_v1) = outF m c

/-- From any memory with all semaphores at zero, for any float values: every execution of the program on the eight devices
    ends; then every device's arguments are as they were, its result is `outF`, and all semaphores are at zero. -/
theorem run_main : θ_run (defs (F := F)) (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = outF m c)
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ arrays m c (outF m c))) (Z := fun _ => iprop(emp))
    (hX := start_intro m ρ) (hin := phi0_intro m ρ) (hout := phi1_exit m ρ)
    (QY := QY m)
    (hY := fun c s' => by
      unfold arrays
      iintro ⟨⟨Hu, Hw, Hr⟩, -, HSI⟩
      icombine HSI Hw gives %h1
      icombine HSI Hr gives %h2
      imod (Pipeline.unscopedSems0_read (X := unscopedSems0 c) (c := c) fupd_intro s') $$ [Hu HSI] with ⟨%h0, HSI⟩
      · isplitl [Hu] <;> iassumption
      imodintro
      isplitr; · ipureintro; exact ⟨h0, Buf.eq_of_forall_mem_univ h1, Buf.eq_of_forall_mem_univ h2⟩
      iexact HSI)
    (hQ := fun s h hs => ⟨fun c => ⟨((h c).1 (0 : Fin 3)).trans ((dats (F := F) m ρ 0 c).arrAt_in (0 : Fin 3) rfl _), (h c).2.2.2.1,
      ((h c).1 (1 : Fin 3)).trans ((dats (F := F) m ρ 0 c).arrAt_in (1 : Fin 3) rfl _),
      ((h c).1 (2 : Fin 3)).trans ((dats (F := F) m ρ 0 c).arrAt_in (2 : Fin 3) rfl _), (h c).2.2.2.2⟩, sem_eq_zero hs fun c => (h c).2.2.1⟩)

end Cert.KernelProof
-- ==== Proof.Same.lean ====
/-
# The idealized kernel is the kernel

No operation is rewritten in the idealized kernel, so its program is the kernel's own. What is proved of the kernel over any type of floats is
proved of it too.
-/
module

public import proofs.«01_k».proof.Proof.Gen.Kernel
public import proofs.«01_k».proof.Proof.Gen.KernelIdeal

@[expose] public section

noncomputable section

namespace Cert.KernelProof

open Idealize.ShloMosaic

set_option maxRecDepth 65536

variable {F : FTy → Type} [FloatOps F]

/-- The two kernels have the same body, -/
theorem same_body : @Cert.KernelIdeal.defs₀ F _ Cert.KernelIdeal.Gen.facts = @Cert.Kernel.defs₀ F _ Cert.Kernel.Gen.facts := by
  unfold Cert.KernelIdeal.defs₀ Cert.Kernel.defs₀
  refine congrArg Defs.onTc (funext fun l => funext fun p => ?_)
  match l, p with
  | ⟨0, _⟩, (t, s) => rfl

/-- the same table of bodies, -/
theorem same_defs : @Cert.KernelIdeal.defs F _ Cert.KernelIdeal.Gen.facts = @Cert.Kernel.defs F _ Cert.Kernel.Gen.facts :=
  congrArg (Pipeline.defs (Cert.Kernel.pcfgs (F := F))) same_body

/-- and the same program. -/
theorem same_main : @Cert.KernelIdeal.main F Cert.KernelIdeal.Gen.facts = @Cert.Kernel.main F Cert.Kernel.Gen.facts := rfl

end Cert.KernelProof
-- ==== Proof.Frames.lean ====
/-
# The frames

What each program leaves: the kernel, the idealized kernel and the idealized reference end without fault, with their arguments unchanged and every
semaphore at zero. Of the idealized kernel also its result is stated.
-/
module

public import proofs.«01_k».proof.Defs
public import proofs.«01_k».proof.Proof.Launch
public import proofs.«01_k».proof.Proof.Same
public import proofs.«01_k».proof.Proof.Gen.ReferenceIdeal.Frame

@[expose] public section

noncomputable section

namespace Cert.KernelProof

open Idealize.ShloMosaic Idealize.SL.Sem
open Cert.Kernel Cert.Kernel.Gen

set_option maxRecDepth 65536

/-- The idealized kernel's run: its result on each device is `outF` of the arguments, which stay as they were. -/
theorem run_ideal (m : (ℓ : Loc nD τ sig) → Buf (Elt Ideal) ℓ) (ρ : Dev nD → PrngReg) :
    θ_run (@Cert.KernelIdeal.defs Ideal _ Cert.KernelIdeal.Gen.facts) (onTc (τ := τ) (@Cert.KernelIdeal.main Ideal Cert.KernelIdeal.Gen.facts))
      ⟨m, fun _ => 0, ρ⟩ (fun r =>
        (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_v1) = outF m c)
        ∧ r.2.sem = fun _ => 0) := by
  rw [same_defs, same_main]
  exact run_main m ρ

/-- The kernel's frame, -/
theorem frame_kernel : Cert.quiescent_Kernel (hKernel := Cert.Kernel.Gen.facts) := fun m ρ _ =>
  (θ_run _ _ _).mono (fun _ h => ⟨fun c => ⟨(h.1 c).1, (h.1 c).2.1, (h.1 c).2.2.1, (h.1 c).2.2.2.1⟩, h.2⟩) (run_main m ρ)

/-- the idealized kernel's, -/
theorem frame_ideal : Cert.quiescent_KernelIdeal (hKernelIdeal := Cert.KernelIdeal.Gen.facts) := fun m ρ _ =>
  (θ_run _ _ _).mono (fun _ h => ⟨fun c => ⟨(h.1 c).1, (h.1 c).2.1, (h.1 c).2.2.1, (h.1 c).2.2.2.1⟩, h.2⟩) (run_ideal m ρ)

/-- and the idealized reference's. -/
theorem frame_reference : Cert.quiescent_ReferenceIdeal (hReferenceIdeal := Cert.ReferenceIdeal.Gen.facts) := fun m ρ _ =>
  Cert.ReferenceIdeal.Gen.frame m ρ

end Cert.KernelProof
-- ==== Proof.Entry.lean ====
/-
# One entry of the result

An entry of the scaled product over the extended reals, and that each block that the kernel computes holds such entries.
-/
module

public import proofs.«01_k».proof.Proof.Common
public import Idealize.ShloMosaic.Lib.Pointwise

@[expose] public section

set_option maxRecDepth 65536

noncomputable section

namespace Cert.KernelProof

open Idealize.ShloMosaic Idealize.ShloMosaic.TcCoe Idealize.SL.Sem
open Cert.Kernel Cert.Kernel.Gen

/-- A row times a column, scaled, and zero in place of a negative number. -/
def entry (sc : EReal) (x w : Fin 4096 → EReal) : EReal := max ((∑ k, x k * w k) * sc) 0

/-- A block of 256 rows holds the entries of its rows, -/
theorem gemm256_apply (sc : EReal) (x : FVec Ideal S256x4096 .fp8e5m2) (w : FVec Ideal S4096x1024 .fp8e5m2) (r : Fin 256) (j : Fin 1024) :
    gemm256 (F := Ideal) sc x w (ix2 r j) = entry sc (fun k => x (ix2 r k)) (fun k => w (ix2 k j)) := by
  unfold entry
  pointwise! [gemm256]

/-- one of 160, -/
theorem gemm160_apply (sc : EReal) (x : FVec Ideal S160x4096 .fp8e5m2) (w : FVec Ideal S4096x1024 .fp8e5m2) (r : Fin 160) (j : Fin 1024) :
    gemm160 (F := Ideal) sc x w (ix2 r j) = entry sc (fun k => x (ix2 r k)) (fun k => w (ix2 k j)) := by
  unfold entry
  pointwise! [gemm160]

/-- and one of 192. -/
theorem gemm192_apply (sc : EReal) (x : FVec Ideal S192x4096 .fp8e5m2) (w : FVec Ideal S4096x1024 .fp8e5m2) (r : Fin 192) (j : Fin 1024) :
    gemm192 (F := Ideal) sc x w (ix2 r j) = entry sc (fun k => x (ix2 r k)) (fun k => w (ix2 k j)) := by
  unfold entry
  pointwise! [gemm192]

variable (m : (ℓ : Loc nD τ sig) → Buf (Elt Ideal) ℓ) (c : Dev nD)

set_option backward.proofsInPublic true in
/-- The device whose rows a row of the result is of. -/
abbrev rowDev (r : Fin 4096) : Dev nD := ⟨r.val / 512, by have := r.isLt; show _ < 8; omega⟩

/-- A row of a chunk is a row of the device's block. -/
theorem xrows_apply (d : Dev nD) (lo n : ℕ) (h : lo + n ≤ 512) (r : Fin n) (k : Fin 4096) (s : Fin 512) (hs : s.val = lo + r.val) :
    xrows m d lo n h (ix2 r k) = X m d (ix2 s k) := by
  unfold xrows
  exact congrArg (X m d) (congrArg₂ ix2 (Fin.ext hs.symm) rfl)

/-- What the kernel leaves on device `c`: row `512 d + s`, column `j` is the entry of row `s` of device `d`'s block and column `j` of the device's
    columns of `w`, in whichever chunk it was computed. -/
theorem outF_apply (r : Fin 4096) (j : Fin 1024) :
    outF m c (ix2 r j) = entry (scF m c) (fun k => X m (rowDev r) (ix2 ⟨r.val % 512, Nat.mod_lt _ (by decide)⟩ k)) (fun k => wF m c (ix2 k j)) := by
  show (if i0 : r.val / 512 = (flip 6 c).val then _ else _) = _
  by_cases i0 : r.val / 512 = (flip 6 c).val
  · have hd : flip 6 c = rowDev r := Fin.ext i0.symm
    rw [dif_pos i0]
    by_cases h1 : r.val % 512 < 160
    · refine (dif_pos h1).trans ((gemm160_apply _ _ _ _ _).trans ?_)
      rw [hd]
      refine congrArg (fun f => entry _ f _) (funext fun k => xrows_apply m _ _ _ _ _ _ _ ?_)
      exact (Nat.zero_add _).symm
    · by_cases h2 : r.val % 512 < 320
      · refine (dif_neg h1).trans ((dif_pos h2).trans ((gemm160_apply _ _ _ _ _).trans ?_))
        rw [hd]
        refine congrArg (fun f => entry _ f _) (funext fun k => xrows_apply m _ _ _ _ _ _ _ ?_)
        show r.val % 512 = 160 + (r.val % 512 - 160)
        omega
      · refine (dif_neg h1).trans ((dif_neg h2).trans ((gemm192_apply _ _ _ _ _).trans ?_))
        rw [hd]
        refine congrArg (fun f => entry _ f _) (funext fun k => xrows_apply m _ _ _ _ _ _ _ ?_)
        show r.val % 512 = 320 + (r.val % 512 - 320)
        omega
  · rw [dif_neg i0]
    by_cases h1 : r.val % 512 < 256
    · refine (dif_pos h1).trans ((gemm256_apply _ _ _ _ _).trans ?_)
      refine congrArg (fun f => entry _ f _) (funext fun k => xrows_apply m _ _ _ _ _ _ _ ?_)
      exact (Nat.zero_add _).symm
    · refine (dif_neg h1).trans ((gemm256_apply _ _ _ _ _).trans ?_)
      refine congrArg (fun f => entry _ f _) (funext fun k => xrows_apply m _ _ _ _ _ _ _ ?_)
      show r.val % 512 = 256 + (r.val % 512 - 256)
      omega

end Cert.KernelProof
-- ==== Proof.Ref.lean ====
/-
# What the reference computes

Each entry of the reference's result, over the extended reals.
-/
module

public import proofs.«01_k».proof.Proof.Gen.ReferenceIdeal.Value
public import proofs.«01_k».proof.Proof.Entry

@[expose] public section

set_option maxRecDepth 65536

noncomputable section

namespace Cert.ReferenceProof

open Idealize.ShloMosaic Idealize.ShloMosaic.TcCoe
open Cert.ReferenceIdeal Cert.ReferenceIdeal.Gen
open Cert.KernelProof (entry)

/-- Entry `(r, j)` is of row `r` of `x`, column `j` of `w` and the product of the scales. -/
theorem result_apply (x : FVec Ideal S4096x4096 .fp8e5m2) (w : FVec Ideal S4096x8192 .fp8e5m2) (sx sw : FVec Ideal S1 .f32) (r : Fin 4096) (j : Fin 8192) :
    k0_pay1 (F := Ideal) x w sx sw (ix2 r j) = entry (sx (ix1 0) * sw (ix1 0)) (fun k => x (ix2 r k)) (fun k => w (ix2 k j)) := by
  unfold entry
  pointwise! [k0_pay1]

end Cert.ReferenceProof
-- ==== Proof.Equal.lean ====
/-
# The kernel against the reference

Device `c`'s result is block `c` of the columns of the reference's result.
-/
module

public import proofs.«01_k».proof.Proof.Frames
public import proofs.«01_k».proof.Proof.Ref

@[expose] public section

set_option maxRecDepth 65536

noncomputable section

namespace Cert.KernelProof

open Idealize.ShloMosaic Idealize.ShloMosaic.TcCoe Idealize.SL.Sem
open Cert.Kernel Cert.Kernel.Gen

/-- Block `d` of the rows of `x`, by coordinates, -/
theorem rows_block (d : Dev nD) (v : (⟨2, ![4096, 4096]⟩ : Shape).Idx → EReal) (s : Fin 512) (k : Fin 4096) (r : Fin 4096)
    (hr : r.val = d.val * 512 + s.val) :
    Layout.block ⟨2, ![512, 4096]⟩ ⟨2, ![4096, 4096]⟩ 0 8 d v (by decide) (ix2 s k) = v (ix2 r k) := by
  rw [Layout.block_apply]
  refine congrArg v (funext fun a => Fin.ext ?_)
  match a with
  | ⟨0, _⟩ => exact hr.symm
  | ⟨1, _⟩ => rfl

/-- and block `c` of the columns of the result. -/
theorem cols_block (c : Dev nD) (v : (⟨2, ![4096, 8192]⟩ : Shape).Idx → EReal) (r : Fin 4096) (j : Fin 1024) (l : Fin 8192)
    (hl : l.val = c.val * 1024 + j.val) :
    Layout.block ⟨2, ![4096, 1024]⟩ ⟨2, ![4096, 8192]⟩ 1 8 c v (by decide) (ix2 r j) = v (ix2 r l) := by
  rw [Layout.block_apply]
  refine congrArg v (funext fun a => Fin.ext ?_)
  match a with
  | ⟨0, _⟩ => rfl
  | ⟨1, _⟩ => exact hl.symm

/-- From blocks of the rows of `x`, and `w` and the scales whole on every device, device `c` computes its block of the columns of what
    the reference computes. -/
theorem outF_block (m : (ℓ : Loc nD τ sig) → Buf (Elt Ideal) ℓ) (c : Dev nD)
    (x : FVec Ideal ⟨2, ![4096, 4096]⟩ .fp8e5m2) (w : FVec Ideal ⟨2, ![4096, 8192]⟩ .fp8e5m2) (sx sw : FVec Ideal ⟨1, ![1]⟩ .f32)
    (hx : ∀ d : Dev nD, m ((d : Thread nD τ).loc main_arg0) = Layout.block ⟨2, ![512, 4096]⟩ ⟨2, ![4096, 4096]⟩ 0 8 d x (by decide))
    (hw : m ((c : Thread nD τ).loc main_arg1) = w) (hsx : m ((c : Thread nD τ).loc main_arg2) = sx) (hsw : m ((c : Thread nD τ).loc main_arg3) = sw) :
    outF m c = Layout.block ⟨2, ![4096, 1024]⟩ ⟨2, ![4096, 8192]⟩ 1 8 c (Cert.ReferenceIdeal.Gen.k0_pay1 (F := Ideal) x w sx sw) (by decide) := by
  funext i
  obtain ⟨r, j, rfl⟩ : ∃ (r : Fin 4096) (j : Fin 1024), i = ix2 r j := ⟨i 0, i 1, eq_ix2 i⟩
  have hl : 1024 * c.val + j.val < 8192 := wcol_lt c j
  refine (outF_apply m c r j).trans (Eq.symm ((cols_block c _ r j ⟨1024 * c.val + j.val, hl⟩ (by show 1024 * c.val + j.val = _; omega)).trans
    ((Cert.ReferenceProof.result_apply x w sx sw r _).trans ?_)))
  have e1 : scF m c = (sx (ix1 0) * sw (ix1 0) : EReal) := by
    rw [← hsx, ← hsw]
    rfl
  have e2 : (fun k => X m (rowDev r) (ix2 ⟨r.val % 512, Nat.mod_lt _ (by decide)⟩ k)) = fun k => x (ix2 r k) := by
    funext k
    refine (congrFun (hx (rowDev r)) _).trans (rows_block (rowDev r) x _ k r ?_)
    show r.val = r.val / 512 * 512 + r.val % 512
    omega
  have e3 : (fun k => wF m c (ix2 k j)) = fun k => w (ix2 k ⟨1024 * c.val + j.val, hl⟩) := by
    funext k
    rw [← hw]
    rfl
  rw [e1, e2, e3]

/-- Over the extended reals, from the reference's arguments dealt to the devices, each device's result is its block of the columns of the
    reference's result; both leave their arguments as they were. -/
theorem equal : Cert.algebraic_KernelIdeal_ReferenceIdeal (hKernelIdeal := Cert.KernelIdeal.Gen.facts) (hReferenceIdeal := Cert.ReferenceIdeal.Gen.facts) :=
  fun m ρ m' ρ' _ hm => ⟨Cert.ReferenceIdeal.Gen.k0_pay1 (F := Ideal)
      (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)),
    (θ_run _ _ _).mono (fun _ h c => ⟨((h.1 c).2.2.2.2).trans
        (outF_block m c _ _ _ _ (fun d => (hm d).1) (hm c).2.1 (hm c).2.2.1 (hm c).2.2.2),
      (h.1 c).1, (h.1 c).2.1, (h.1 c).2.2.1, (h.1 c).2.2.2.1⟩) (run_ideal m ρ),
    (θ_run _ _ _).mono (fun _ h => h 0) (Cert.ReferenceIdeal.Value.run m' ρ')⟩

end Cert.KernelProof
-- ==== Proof.lean ====
module

public import proofs.«01_k».proof.Defs
public import proofs.«01_k».proof.Proof.Frames
public import proofs.«01_k».proof.Proof.Equal
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelProof.frame_kernel, Cert.KernelProof.frame_ideal, Cert.KernelProof.frame_reference, trivial, Cert.KernelProof.equal⟩

end Cert.Proof

end
